-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v14)) (v2 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_v15) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_v89) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S32x1024x6x128 : Shape := ⟨4, ![32, 1024, 6, 128]⟩
abbrev S32x1024x6x256 : Shape := ⟨4, ![32, 1024, 6, 256]⟩
abbrev S32x16x6 : Shape := ⟨3, ![32, 16, 6]⟩
abbrev S32x1024x6 : Shape := ⟨3, ![32, 1024, 6]⟩
abbrev S_ : Shape := ⟨0, ![]⟩

class Facts : Prop where
  natLt_8_32 : 8 < 32
  bcast_S_S32x1024x6x128 : S_.BroadcastsInDim S32x1024x6x128 (![] : Fin 0 → Fin S32x1024x6x128.rank)
  bcast_S_S32x1024x6x256 : S_.BroadcastsInDim S32x1024x6x256 (![] : Fin 0 → Fin S32x1024x6x256.rank)
  bcast_S_S32x16x6 : S_.BroadcastsInDim S32x16x6 (![] : Fin 0 → Fin S32x16x6.rank)
  bcast_S_S32x1024x6 : S_.BroadcastsInDim S32x1024x6 (![] : Fin 0 → Fin S32x1024x6.rank)

variable [Facts]

def fn_part1 {F : FTy → Type} [FloatOps F] (main_arg4 : FVec F S32x16x6 .f32) (main_arg5 : FVec F S32x16x6 .f32) (main_arg6 : IVec S32x1024x6x256 8) (main_arg7 : FVec F S32x1024x6 .f32) (main_v4 : IVec S32x1024x6x128 1) (main_v9 : IVec S32x1024x6x128 1) (main_v14 : IVec S32x1024x6x256 1) (main_v15 : FVec F S32x16x6 .f32) (main_v16 : FVec F S32x16x6 .f32) : IVec S32x1024x6x128 1 × IVec S32x1024x6x128 1 × IVec S32x1024x6x256 1 × IVec S32x16x6 1 × IVec S32x16x6 1 × IVec S32x16x6 1 × IVec S32x1024x6 1 × IVec S32x1024x6x256 1 :=
  let main_v17 : IVec S32x16x6 1 := cmpf .olt main_v15 main_v16
  let main_v18 : FVec F S32x16x6 .f32 := Host.absf main_arg4
  let main_cst_5 : FVec F S_ .f32 := constant S_ .f32 0x7F800000#32
  let main_v19 : FVec F S32x16x6 .f32 := broadcastInDim S32x16x6 ![] bcast_S_S32x16x6 main_cst_5
  let main_v20 : IVec S32x16x6 1 := cmpf .olt main_v18 main_v19
  let main_v21 : FVec F S32x16x6 .f32 := Host.absf main_arg5
  let main_cst_6 : FVec F S_ .f32 := constant S_ .f32 0x7F800000#32
  let main_v22 : FVec F S32x16x6 .f32 := broadcastInDim S32x16x6 ![] bcast_S_S32x16x6 main_cst_6
  let main_v23 : IVec S32x16x6 1 := cmpf .olt main_v21 main_v22
  let main_v24 : FVec F S32x1024x6 .f32 := Host.absf main_arg7
  let main_cst_7 : FVec F S_ .f32 := constant S_ .f32 0x7F800000#32
  let main_v25 : FVec F S32x1024x6 .f32 := broadcastInDim S32x1024x6 ![] bcast_S_S32x1024x6 main_cst_7
  let main_v26 : IVec S32x1024x6 1 := cmpf .olt main_v24 main_v25
  let main_v27 : IVec S32x1024x6x256 32 := (extui 32 · natLt_8_32) main_arg6
  let main_c_8 : IVec S_ 32 := constantI S_ 32 127#32
  let main_v28 : IVec S32x1024x6x256 32 := broadcastInDim S32x1024x6x256 ![] bcast_S_S32x1024x6x256 main_c_8
  let main_v29 : IVec S32x1024x6x256 32 := andi main_v27 main_v28
  let main_c_9 : IVec S_ 32 := constantI S_ 32 124#32
  let main_v30 : IVec S32x1024x6x256 32 := broadcastInDim S32x1024x6x256 ![] bcast_S_S32x1024x6x256 main_c_9
  let main_v31 : IVec S32x1024x6x256 1 := cmpi .slt main_v29 main_v30
  (main_v4, main_v9, main_v14, main_v17, main_v20, main_v23, main_v26, main_v31)

def fn {F : FTy → Type} [FloatOps F] (main_arg0 : IVec S32x1024x6x128 8) (main_arg1 : IVec S32x1024x6x128 8) (main_arg2 : IVec S32x1024x6x256 8) (main_arg3 : FVec F S32x16x6 .f32) (main_arg4 : FVec F S32x16x6 .f32) (main_arg5 : FVec F S32x16x6 .f32) (main_arg6 : IVec S32x1024x6x256 8) (main_arg7 : FVec F S32x1024x6 .f32) : IVec S32x1024x6x128 1 × IVec S32x1024x6x128 1 × IVec S32x1024x6x256 1 × IVec S32x16x6 1 × IVec S32x16x6 1 × IVec S32x16x6 1 × IVec S32x1024x6 1 × IVec S32x1024x6x256 1 :=
  let main_v0 : IVec S32x1024x6x128 32 := (extui 32 · natLt_8_32) main_arg0
  let main_c : IVec S_ 32 := constantI S_ 32 127#32
  let main_v1 : IVec S32x1024x6x128 32 := broadcastInDim S32x1024x6x128 ![] bcast_S_S32x1024x6x128 main_c
  let main_v2 : IVec S32x1024x6x128 32 := andi main_v0 main_v1
  let main_c_0 : IVec S_ 32 := constantI S_ 32 127#32
  let main_v3 : IVec S32x1024x6x128 32 := broadcastInDim S32x1024x6x128 ![] bcast_S_S32x1024x6x128 main_c_0
  let main_v4 : IVec S32x1024x6x128 1 := cmpi .slt main_v2 main_v3
  let main_v5 : IVec S32x1024x6x128 32 := (extui 32 · natLt_8_32) main_arg1
  let main_c_1 : IVec S_ 32 := constantI S_ 32 127#32
  let main_v6 : IVec S32x1024x6x128 32 := broadcastInDim S32x1024x6x128 ![] bcast_S_S32x1024x6x128 main_c_1
  let main_v7 : IVec S32x1024x6x128 32 := andi main_v5 main_v6
  let main_c_2 : IVec S_ 32 := constantI S_ 32 127#32
  let main_v8 : IVec S32x1024x6x128 32 := broadcastInDim S32x1024x6x128 ![] bcast_S_S32x1024x6x128 main_c_2
  let main_v9 : IVec S32x1024x6x128 1 := cmpi .slt main_v7 main_v8
  let main_v10 : IVec S32x1024x6x256 32 := (extui 32 · natLt_8_32) main_arg2
  let main_c_3 : IVec S_ 32 := constantI S_ 32 127#32
  let main_v11 : IVec S32x1024x6x256 32 := broadcastInDim S32x1024x6x256 ![] bcast_S_S32x1024x6x256 main_c_3
  let main_v12 : IVec S32x1024x6x256 32 := andi main_v10 main_v11
  let main_c_4 : IVec S_ 32 := constantI S_ 32 127#32
  let main_v13 : IVec S32x1024x6x256 32 := broadcastInDim S32x1024x6x256 ![] bcast_S_S32x1024x6x256 main_c_4
  let main_v14 : IVec S32x1024x6x256 1 := cmpi .slt main_v12 main_v13
  let main_v15 : FVec F S32x16x6 .f32 := Host.absf main_arg3
  let main_cst : FVec F S_ .f32 := constant S_ .f32 0x7F800000#32
  let main_v16 : FVec F S32x16x6 .f32 := broadcastInDim S32x16x6 ![] bcast_S_S32x16x6 main_cst
  fn_part1 (F := F) main_arg4 main_arg5 main_arg6 main_arg7 main_v4 main_v9 main_v14 main_v15 main_v16
-- ==== Kernel.lean ====
abbrev S32x1024x6x128 : Shape := ⟨4, ![32, 1024, 6, 128]⟩
abbrev S32x1024x6x256 : Shape := ⟨4, ![32, 1024, 6, 256]⟩
abbrev S32x16x6 : Shape := ⟨3, ![32, 16, 6]⟩
abbrev S32x1024x6 : Shape := ⟨3, ![32, 1024, 6]⟩
abbrev S6x16x32 : Shape := ⟨3, ![6, 16, 32]⟩
abbrev S32x6x1024x128 : Shape := ⟨4, ![32, 6, 1024, 128]⟩
abbrev S32x6x1024x256 : Shape := ⟨4, ![32, 6, 1024, 256]⟩
abbrev S6x32x1024 : Shape := ⟨3, ![6, 32, 1024]⟩
abbrev S1x1x1024x128 : Shape := ⟨4, ![1, 1, 1024, 128]⟩
abbrev S1x1x1024x256 : Shape := ⟨4, ![1, 1, 1024, 256]⟩
abbrev S1x4x256x256 : Shape := ⟨4, ![1, 4, 256, 256]⟩
abbrev S1x4x128x256 : Shape := ⟨4, ![1, 4, 128, 256]⟩
abbrev S128x128 : Shape := ⟨2, ![128, 128]⟩
abbrev S1x1x1024 : Shape := ⟨3, ![1, 1, 1024]⟩
abbrev S1x1024 : Shape := ⟨2, ![1, 1024]⟩
abbrev S1x128 : Shape := ⟨2, ![1, 128]⟩
abbrev S1x1x1 : Shape := ⟨3, ![1, 1, 1]⟩
abbrev S1x256 : Shape := ⟨2, ![1, 256]⟩
abbrev S1x1x256x128 : Shape := ⟨4, ![1, 1, 256, 128]⟩
abbrev S256x128 : Shape := ⟨2, ![256, 128]⟩
abbrev S1x1x256x256 : Shape := ⟨4, ![1, 1, 256, 256]⟩
abbrev S256x256 : Shape := ⟨2, ![256, 256]⟩
abbrev S128x256 : Shape := ⟨2, ![128, 256]⟩
abbrev S4x128x256 : Shape := ⟨3, ![4, 128, 256]⟩
abbrev S1x128x256 : Shape := ⟨3, ![1, 128, 256]⟩
abbrev S1x1x128x256 : Shape := ⟨4, ![1, 1, 128, 256]⟩
abbrev S4x256x256 : Shape := ⟨3, ![4, 256, 256]⟩
abbrev S1x256x256 : Shape := ⟨3, ![1, 256, 256]⟩
abbrev S1x1x128x128 : Shape := ⟨4, ![1, 1, 128, 128]⟩
abbrev S64x128 : Shape := ⟨2, ![64, 128]⟩
abbrev S64x256 : Shape := ⟨2, ![64, 256]⟩
abbrev S1x1x64x256 : Shape := ⟨4, ![1, 1, 64, 256]⟩

abbrev nBuf : Space → Nat
  | .hbm => 26
  | .vmem => 17
  | .smem => 3
  | _ => 0

abbrev bufTy : (tb : Table) → Fin (tcTables nBuf tb) → BufTy
  | .hbm, ⟨0, _⟩ => ⟨S32x1024x6x128, .i8⟩
  | .hbm, ⟨1, _⟩ => ⟨S32x1024x6x128, .i8⟩
  | .hbm, ⟨2, _⟩ => ⟨S32x1024x6x256, .i8⟩
  | .hbm, ⟨3, _⟩ => ⟨S32x16x6, .f32⟩
  | .hbm, ⟨4, _⟩ => ⟨S32x16x6, .f32⟩
  | .hbm, ⟨5, _⟩ => ⟨S32x16x6, .f32⟩
  | .hbm, ⟨6, _⟩ => ⟨S32x1024x6x256, .i8⟩
  | .hbm, ⟨7, _⟩ => ⟨S32x1024x6, .f32⟩
  | .hbm, ⟨8, _⟩ => ⟨S32x1024x6x128, .fp8e4m3⟩
  | .hbm, ⟨9, _⟩ => ⟨S32x1024x6x128, .fp8e4m3⟩
  | .hbm, ⟨10, _⟩ => ⟨S32x1024x6x256, .fp8e4m3⟩
  | .hbm, ⟨11, _⟩ => ⟨S32x1024x6x256, .fp8e5m2⟩
  | .hbm, ⟨12, _⟩ => ⟨S6x16x32, .f32⟩
  | .hbm, ⟨13, _⟩ => ⟨S6x16x32, .f32⟩
  | .hbm, ⟨14, _⟩ => ⟨S6x16x32, .f32⟩
  | .hbm, ⟨15, _⟩ => ⟨S32x6x1024x128, .fp8e4m3⟩
  | .hbm, ⟨16, _⟩ => ⟨S32x6x1024x128, .fp8e4m3⟩
  | .hbm, ⟨17, _⟩ => ⟨S32x6x1024x256, .fp8e4m3⟩
  | .hbm, ⟨18, _⟩ => ⟨S32x6x1024x256, .fp8e5m2⟩
  | .hbm, ⟨19, _⟩ => ⟨S6x32x1024, .f32⟩
  | .hbm, ⟨20, _⟩ => ⟨S32x6x1024x128, .bf16⟩
  | .hbm, ⟨21, _⟩ => ⟨S32x6x1024x128, .bf16⟩
  | .hbm, ⟨22, _⟩ => ⟨S32x6x1024x256, .bf16⟩
  | .hbm, ⟨23, _⟩ => ⟨S32x1024x6x128, .bf16⟩
  | .hbm, ⟨24, _⟩ => ⟨S32x1024x6x128, .bf16⟩
  | .hbm, ⟨25, _⟩ => ⟨S32x1024x6x256, .bf16⟩
  | .local _ .vmem, ⟨0, _⟩ => ⟨S1x1x1024x128, .fp8e4m3⟩
  | .local _ .vmem, ⟨1, _⟩ => ⟨S1x1x1024x128, .fp8e4m3⟩
  | .local _ .vmem, ⟨2, _⟩ => ⟨S1x1x1024x128, .fp8e4m3⟩
  | .local _ .vmem, ⟨3, _⟩ => ⟨S1x1x1024x128, .fp8e4m3⟩
  | .local _ .vmem, ⟨4, _⟩ => ⟨S1x1x1024x256, .fp8e4m3⟩
  | .local _ .vmem, ⟨5, _⟩ => ⟨S1x1x1024x256, .fp8e4m3⟩
  | .local _ .vmem, ⟨6, _⟩ => ⟨S1x1x1024x256, .fp8e5m2⟩
  | .local _ .vmem, ⟨7, _⟩ => ⟨S1x1x1024x256, .fp8e5m2⟩
  | .local _ .vmem, ⟨8, _⟩ => ⟨S6x32x1024, .f32⟩
  | .local _ .vmem, ⟨9, _⟩ => ⟨S1x1x1024x128, .bf16⟩
  | .local _ .vmem, ⟨10, _⟩ => ⟨S1x1x1024x128, .bf16⟩
  | .local _ .vmem, ⟨11, _⟩ => ⟨S1x1x1024x128, .bf16⟩
  | .local _ .vmem, ⟨12, _⟩ => ⟨S1x1x1024x128, .bf16⟩
  | .local _ .vmem, ⟨13, _⟩ => ⟨S1x1x1024x256, .bf16⟩
  | .local _ .vmem, ⟨14, _⟩ => ⟨S1x1x1024x256, .bf16⟩
  | .local _ .vmem, ⟨15, _⟩ => ⟨S1x4x256x256, .bf16⟩
  | .local _ .vmem, ⟨16, _⟩ => ⟨S1x4x128x256, .bf16⟩
  | .local _ .smem, ⟨0, _⟩ => ⟨S6x16x32, .f32⟩
  | .local _ .smem, ⟨1, _⟩ => ⟨S6x16x32, .f32⟩
  | .local _ .smem, ⟨2, _⟩ => ⟨S6x16x32, .f32⟩
  | _, _ => ⟨S32x1024x6x128, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev main_v12_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_scratch1 : Ref sig .tc := ⟨.vmem, 16, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![32, 6], ![false, false]⟩

def k0_off1 (i : grid0.Coords) : Fin 3 → Nat :=
  let arg1 : BitVec 32 := BitVec.ofNat 32 (i 1).val
  let c1_i32 : BitVec 32 := 1#32
  let v0 : BitVec 32 := Scalar.muli arg1 c1_i32
  let c0_i32 : BitVec 32 := 0#32
  let v1 : BitVec 32 := Scalar.addi v0 c0_i32
  let v55 : Index := Scalar.indexCast v1
  let arg0 : BitVec 32 := BitVec.ofNat 32 (i 0).val
  let v56 : Index := Scalar.indexCast arg0
  let c0 : Index := 0#32
  ![v55.toNat, v56.toNat, 0]
def k0_off2 (i : grid0.Coords) : Fin 3 → Nat :=
  let arg1 : BitVec 32 := BitVec.ofNat 32 (i 1).val
  let c1_i32 : BitVec 32 := 1#32
  let v0 : BitVec 32 := Scalar.muli arg1 c1_i32
  let c0_i32 : BitVec 32 := 0#32
  let v1 : BitVec 32 := Scalar.addi v0 c0_i32
  let v62 : Index := Scalar.indexCast v1
  let c0_14 : Index := 0#32
  let arg0 : BitVec 32 := BitVec.ofNat 32 (i 0).val
  let v63 : Index := Scalar.indexCast arg0
  ![v62.toNat, 0, v63.toNat]
def k0_off3 (i : grid0.Coords) : Fin 3 → Nat :=
  let arg1 : BitVec 32 := BitVec.ofNat 32 (i 1).val
  let c1_i32 : BitVec 32 := 1#32
  let v0 : BitVec 32 := Scalar.muli arg1 c1_i32
  let c0_i32 : BitVec 32 := 0#32
  let v1 : BitVec 32 := Scalar.addi v0 c0_i32
  let v65 : Index := Scalar.indexCast v1
  let c1 : Index := 1#32
  let arg0 : BitVec 32 := BitVec.ofNat 32 (i 0).val
  let v66 : Index := Scalar.indexCast arg0
  ![v65.toNat, 1, v66.toNat]
def k0_off4 (i : grid0.Coords) : Fin 3 → Nat :=
  let arg1 : BitVec 32 := BitVec.ofNat 32 (i 1).val
  let c1_i32 : BitVec 32 := 1#32
  let v0 : BitVec 32 := Scalar.muli arg1 c1_i32
  let c0_i32 : BitVec 32 := 0#32
  let v1 : BitVec 32 := Scalar.addi v0 c0_i32
  let v73 : Index := Scalar.indexCast v1
  let c2 : Index := 2#32
  let arg0 : BitVec 32 := BitVec.ofNat 32 (i 0).val
  let v74 : Index := Scalar.indexCast arg0
  ![v73.toNat, 2, v74.toNat]
def k0_off5 (i : grid0.Coords) : Fin 3 → Nat :=
  let arg1 : BitVec 32 := BitVec.ofNat 32 (i 1).val
  let c1_i32 : BitVec 32 := 1#32
  let v0 : BitVec 32 := Scalar.muli arg1 c1_i32
  let c0_i32 : BitVec 32 := 0#32
  let v1 : BitVec 32 := Scalar.addi v0 c0_i32
  let v76 : Index := Scalar.indexCast v1
  let c3 : Index := 3#32
  let arg0 : BitVec 32 := BitVec.ofNat 32 (i 0).val
  let v77 : Index := Scalar.indexCast arg0
  ![v76.toNat, 3, v77.toNat]
def k0_off6 (i : grid0.Coords) : Fin 3 → Nat :=
  let arg1 : BitVec 32 := BitVec.ofNat 32 (i 1).val
  let c1_i32 : BitVec 32 := 1#32
  let v0 : BitVec 32 := Scalar.muli arg1 c1_i32
  let c0_i32 : BitVec 32 := 0#32
  let v1 : BitVec 32 := Scalar.addi v0 c0_i32
  let v193 : Index := Scalar.indexCast v1
  let c4 : Index := 4#32
  let arg0 : BitVec 32 := BitVec.ofNat 32 (i 0).val
  let v194 : Index := Scalar.indexCast arg0
  ![v193.toNat, 4, v194.toNat]
def k0_off7 (i : grid0.Coords) : Fin 3 → Nat :=
  let arg1 : BitVec 32 := BitVec.ofNat 32 (i 1).val
  let c1_i32 : BitVec 32 := 1#32
  let v0 : BitVec 32 := Scalar.muli arg1 c1_i32
  let c0_i32 : BitVec 32 := 0#32
  let v1 : BitVec 32 := Scalar.addi v0 c0_i32
  let v196 : Index := Scalar.indexCast v1
  let c5 : Index := 5#32
  let arg0 : BitVec 32 := BitVec.ofNat 32 (i 0).val
  let v197 : Index := Scalar.indexCast arg0
  ![v196.toNat, 5, v197.toNat]
def k0_off8 (i : grid0.Coords) : Fin 3 → Nat :=
  let arg1 : BitVec 32 := BitVec.ofNat 32 (i 1).val
  let c1_i32 : BitVec 32 := 1#32
  let v0 : BitVec 32 := Scalar.muli arg1 c1_i32
  let c0_i32 : BitVec 32 := 0#32
  let v1 : BitVec 32 := Scalar.addi v0 c0_i32
  let v204 : Index := Scalar.indexCast v1
  let c6 : Index := 6#32
  let arg0 : BitVec 32 := BitVec.ofNat 32 (i 0).val
  let v205 : Index := Scalar.indexCast arg0
  ![v204.toNat, 6, v205.toNat]
def k0_off9 (i : grid0.Coords) : Fin 3 → Nat :=
  let arg1 : BitVec 32 := BitVec.ofNat 32 (i 1).val
  let c1_i32 : BitVec 32 := 1#32
  let v0 : BitVec 32 := Scalar.muli arg1 c1_i32
  let c0_i32 : BitVec 32 := 0#32
  let v1 : BitVec 32 := Scalar.addi v0 c0_i32
  let v207 : Index := Scalar.indexCast v1
  let c7 : Index := 7#32
  let arg0 : BitVec 32 := BitVec.ofNat 32 (i 0).val
  let v208 : Index := Scalar.indexCast arg0
  ![v207.toNat, 7, v208.toNat]
def k0_off10 (i : grid0.Coords) : Fin 3 → Nat :=
  let arg1 : BitVec 32 := BitVec.ofNat 32 (i 1).val
  let c1_i32 : BitVec 32 := 1#32
  let v0 : BitVec 32 := Scalar.muli arg1 c1_i32
  let c0_i32 : BitVec 32 := 0#32
  let v1 : BitVec 32 := Scalar.addi v0 c0_i32
  let v328 : Index := Scalar.indexCast v1
  let c8 : Index := 8#32
  let arg0 : BitVec 32 := BitVec.ofNat 32 (i 0).val
  let v329 : Index := Scalar.indexCast arg0
  ![v328.toNat, 8, v329.toNat]
def k0_off11 (i : grid0.Coords) : Fin 3 → Nat :=
  let arg1 : BitVec 32 := BitVec.ofNat 32 (i 1).val
  let c1_i32 : BitVec 32 := 1#32
  let v0 : BitVec 32 := Scalar.muli arg1 c1_i32
  let c0_i32 : BitVec 32 := 0#32
  let v1 : BitVec 32 := Scalar.addi v0 c0_i32
  let v331 : Index := Scalar.indexCast v1
  let c9 : Index := 9#32
  let arg0 : BitVec 32 := BitVec.ofNat 32 (i 0).val
  let v332 : Index := Scalar.indexCast arg0
  ![v331.toNat, 9, v332.toNat]
def k0_off12 (i : grid0.Coords) : Fin 3 → Nat :=
  let arg1 : BitVec 32 := BitVec.ofNat 32 (i 1).val
  let c1_i32 : BitVec 32 := 1#32
  let v0 : BitVec 32 := Scalar.muli arg1 c1_i32
  let c0_i32 : BitVec 32 := 0#32
  let v1 : BitVec 32 := Scalar.addi v0 c0_i32
  let v339 : Index := Scalar.indexCast v1
  let c10 : Index := 10#32
  let arg0 : BitVec 32 := BitVec.ofNat 32 (i 0).val
  let v340 : Index := Scalar.indexCast arg0
  ![v339.toNat, 10, v340.toNat]
def k0_off13 (i : grid0.Coords) : Fin 3 → Nat :=
  let arg1 : BitVec 32 := BitVec.ofNat 32 (i 1).val
  let c1_i32 : BitVec 32 := 1#32
  let v0 : BitVec 32 := Scalar.muli arg1 c1_i32
  let c0_i32 : BitVec 32 := 0#32
  let v1 : BitVec 32 := Scalar.addi v0 c0_i32
  let v342 : Index := Scalar.indexCast v1
  let c11 : Index := 11#32
  let arg0 : BitVec 32 := BitVec.ofNat 32 (i 0).val
  let v343 : Index := Scalar.indexCast arg0
  ![v342.toNat, 11, v343.toNat]
def k0_off14 (i : grid0.Coords) : Fin 3 → Nat :=
  let arg1 : BitVec 32 := BitVec.ofNat 32 (i 1).val
  let c1_i32 : BitVec 32 := 1#32
  let v0 : BitVec 32 := Scalar.muli arg1 c1_i32
  let c0_i32 : BitVec 32 := 0#32
  let v1 : BitVec 32 := Scalar.addi v0 c0_i32
  let v463 : Index := Scalar.indexCast v1
  let c12 : Index := 12#32
  let arg0 : BitVec 32 := BitVec.ofNat 32 (i 0).val
  let v464 : Index := Scalar.indexCast arg0
  ![v463.toNat, 12, v464.toNat]
def k0_off15 (i : grid0.Coords) : Fin 3 → Nat :=
  let arg1 : BitVec 32 := BitVec.ofNat 32 (i 1).val
  let c1_i32 : BitVec 32 := 1#32
  let v0 : BitVec 32 := Scalar.muli arg1 c1_i32
  let c0_i32 : BitVec 32 := 0#32
  let v1 : BitVec 32 := Scalar.addi v0 c0_i32
  let v466 : Index := Scalar.indexCast v1
  let c13 : Index := 13#32
  let arg0 : BitVec 32 := BitVec.ofNat 32 (i 0).val
  let v467 : Index := Scalar.indexCast arg0
  ![v466.toNat, 13, v467.toNat]
def k0_off16 (i : grid0.Coords) : Fin 3 → Nat :=
  let arg1 : BitVec 32 := BitVec.ofNat 32 (i 1).val
  let c1_i32 : BitVec 32 := 1#32
  let v0 : BitVec 32 := Scalar.muli arg1 c1_i32
  let c0_i32 : BitVec 32 := 0#32
  let v1 : BitVec 32 := Scalar.addi v0 c0_i32
  let v474 : Index := Scalar.indexCast v1
  let c14 : Index := 14#32
  let arg0 : BitVec 32 := BitVec.ofNat 32 (i 0).val
  let v475 : Index := Scalar.indexCast arg0
  ![v474.toNat, 14, v475.toNat]
def k0_off17 (i : grid0.Coords) : Fin 3 → Nat :=
  let arg1 : BitVec 32 := BitVec.ofNat 32 (i 1).val
  let c1_i32 : BitVec 32 := 1#32
  let v0 : BitVec 32 := Scalar.muli arg1 c1_i32
  let c0_i32 : BitVec 32 := 0#32
  let v1 : BitVec 32 := Scalar.addi v0 c0_i32
  let v477 : Index := Scalar.indexCast v1
  let c15 : Index := 15#32
  let arg0 : BitVec 32 := BitVec.ofNat 32 (i 0).val
  let v478 : Index := Scalar.indexCast arg0
  ![v477.toNat, 15, v478.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S6x16x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S6x16x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S6x16x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1024x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024x256 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024x256 .fp8e5m2 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S6x32x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S32x1024x6x128 : Shape := ⟨4, ![32, 1024, 6, 128]⟩
abbrev S32x1024x6x256 : Shape := ⟨4, ![32, 1024, 6, 256]⟩
abbrev S32x16x6 : Shape := ⟨3, ![32, 16, 6]⟩
abbrev S32x1024x6 : Shape := ⟨3, ![32, 1024, 6]⟩
abbrev S32x16x64x6x128 : Shape := ⟨5, ![32, 16, 64, 6, 128]⟩
abbrev S32x16x64x6x256 : Shape := ⟨5, ![32, 16, 64, 6, 256]⟩
abbrev S32x16x64x6 : Shape := ⟨4, ![32, 16, 64, 6]⟩
abbrev S32x16x1x6x1 : Shape := ⟨5, ![32, 16, 1, 6, 1]⟩
abbrev S32x16x64x6x1 : Shape := ⟨5, ![32, 16, 64, 6, 1]⟩
abbrev S32x16x6x128x256 : Shape := ⟨5, ![32, 16, 6, 128, 256]⟩
abbrev S32x16x6x1x1 : Shape := ⟨5, ![32, 16, 6, 1, 1]⟩
abbrev S_ : Shape := ⟨0, ![]⟩
abbrev S32x1x6x128x256 : Shape := ⟨5, ![32, 1, 6, 128, 256]⟩
abbrev S32x15x6x128x256 : Shape := ⟨5, ![32, 15, 6, 128, 256]⟩
abbrev S64x64 : Shape := ⟨2, ![64, 64]⟩
abbrev S32x16x6x64x64 : Shape := ⟨5, ![32, 16, 6, 64, 64]⟩
abbrev S32x16x6x64 : Shape := ⟨4, ![32, 16, 6, 64]⟩
abbrev S32x16x6x64x1 : Shape := ⟨5, ![32, 16, 6, 64, 1]⟩
abbrev S32x16x6x128x64 : Shape := ⟨5, ![32, 16, 6, 128, 64]⟩
abbrev S32x16x6x256x64 : Shape := ⟨5, ![32, 16, 6, 256, 64]⟩

abbrev nBuf : Space → Nat
  | .hbm => 127
  | .vmem => 8
  | .smem => 0
  | _ => 0

abbrev bufTy : (tb : Table) → Fin (tcTables nBuf tb) → BufTy
  | .hbm, ⟨0, _⟩ => ⟨S32x1024x6x128, .i8⟩
  | .hbm, ⟨1, _⟩ => ⟨S32x1024x6x128, .i8⟩
  | .hbm, ⟨2, _⟩ => ⟨S32x1024x6x256, .i8⟩
  | .hbm, ⟨3, _⟩ => ⟨S32x16x6, .f32⟩
  | .hbm, ⟨4, _⟩ => ⟨S32x16x6, .f32⟩
  | .hbm, ⟨5, _⟩ => ⟨S32x16x6, .f32⟩
  | .hbm, ⟨6, _⟩ => ⟨S32x1024x6x256, .i8⟩
  | .hbm, ⟨7, _⟩ => ⟨S32x1024x6, .f32⟩
  | .hbm, ⟨8, _⟩ => ⟨S32x1024x6x128, .fp8e4m3⟩
  | .hbm, ⟨9, _⟩ => ⟨S32x1024x6x128, .fp8e4m3⟩
  | .hbm, ⟨10, _⟩ => ⟨S32x1024x6x256, .fp8e4m3⟩
  | .hbm, ⟨11, _⟩ => ⟨S32x1024x6x256, .fp8e5m2⟩
  | .hbm, ⟨12, _⟩ => ⟨S32x1024x6x128, .bf16⟩
  | .hbm, ⟨13, _⟩ => ⟨S32x1024x6x128, .bf16⟩
  | .hbm, ⟨14, _⟩ => ⟨S32x1024x6x256, .bf16⟩
  | .hbm, ⟨15, _⟩ => ⟨S32x1024x6x256, .bf16⟩
  | .hbm, ⟨16, _⟩ => ⟨S32x16x64x6x128, .bf16⟩
  | .hbm, ⟨17, _⟩ => ⟨S32x16x64x6x128, .bf16⟩
  | .hbm, ⟨18, _⟩ => ⟨S32x16x64x6x256, .bf16⟩
  | .hbm, ⟨19, _⟩ => ⟨S32x16x64x6x256, .bf16⟩
  | .hbm, ⟨20, _⟩ => ⟨S32x16x64x6, .f32⟩
  | .hbm, ⟨21, _⟩ => ⟨S32x16x6, .bf16⟩
  | .hbm, ⟨22, _⟩ => ⟨S32x16x1x6x1, .bf16⟩
  | .hbm, ⟨23, _⟩ => ⟨S32x16x64x6x128, .bf16⟩
  | .hbm, ⟨24, _⟩ => ⟨S32x16x64x6x128, .bf16⟩
  | .hbm, ⟨25, _⟩ => ⟨S32x16x6, .bf16⟩
  | .hbm, ⟨26, _⟩ => ⟨S32x16x1x6x1, .bf16⟩
  | .hbm, ⟨27, _⟩ => ⟨S32x16x64x6x128, .bf16⟩
  | .hbm, ⟨28, _⟩ => ⟨S32x16x64x6x128, .bf16⟩
  | .hbm, ⟨29, _⟩ => ⟨S32x16x6, .bf16⟩
  | .hbm, ⟨30, _⟩ => ⟨S32x16x1x6x1, .bf16⟩
  | .hbm, ⟨31, _⟩ => ⟨S32x16x64x6x256, .bf16⟩
  | .hbm, ⟨32, _⟩ => ⟨S32x16x64x6x256, .bf16⟩
  | .hbm, ⟨33, _⟩ => ⟨S32x16x64x6, .bf16⟩
  | .hbm, ⟨34, _⟩ => ⟨S32x16x64x6x1, .bf16⟩
  | .hbm, ⟨35, _⟩ => ⟨S32x16x64x6x256, .bf16⟩
  | .hbm, ⟨36, _⟩ => ⟨S32x16x64x6x256, .bf16⟩
  | .hbm, ⟨37, _⟩ => ⟨S32x16x6x128x256, .f32⟩
  | .hbm, ⟨38, _⟩ => ⟨S32x16x6, .f32⟩
  | .hbm, ⟨39, _⟩ => ⟨S32x16x6x1x1, .f32⟩
  | .hbm, ⟨40, _⟩ => ⟨S32x16x6x128x256, .f32⟩
  | .hbm, ⟨41, _⟩ => ⟨S32x16x6x128x256, .f32⟩
  | .hbm, ⟨42, _⟩ => ⟨S32x16x6x128x256, .f32⟩
  | .hbm, ⟨43, _⟩ => ⟨S_, .f32⟩
  | .hbm, ⟨44, _⟩ => ⟨S_, .f32⟩
  | .hbm, ⟨45, _⟩ => ⟨S32x16x6x128x256, .f32⟩
  | .hbm, ⟨46, _⟩ => ⟨S32x1x6x128x256, .f32⟩
  | .hbm, ⟨47, _⟩ => ⟨S_, .f32⟩
  | .hbm, ⟨48, _⟩ => ⟨S32x1x6x128x256, .f32⟩
  | .hbm, ⟨49, _⟩ => ⟨S32x15x6x128x256, .f32⟩
  | .hbm, ⟨50, _⟩ => ⟨S32x16x6x128x256, .f32⟩
  | .hbm, ⟨51, _⟩ => ⟨S32x16x6x128x256, .bf16⟩
  | .hbm, ⟨52, _⟩ => ⟨S_, .f32⟩
  | .hbm, ⟨53, _⟩ => ⟨S_, .f32⟩
  | .hbm, ⟨54, _⟩ => ⟨S32x16x6x128x256, .f32⟩
  | .hbm, ⟨55, _⟩ => ⟨S32x15x6x128x256, .f32⟩
  | .hbm, ⟨56, _⟩ => ⟨S32x1x6x128x256, .f32⟩
  | .hbm, ⟨57, _⟩ => ⟨S_, .f32⟩
  | .hbm, ⟨58, _⟩ => ⟨S32x1x6x128x256, .f32⟩
  | .hbm, ⟨59, _⟩ => ⟨S32x16x6x128x256, .f32⟩
  | .hbm, ⟨60, _⟩ => ⟨S32x16x6x128x256, .bf16⟩
  | .hbm, ⟨61, _⟩ => ⟨S_, .i1⟩
  | .hbm, ⟨62, _⟩ => ⟨S64x64, .i1⟩
  | .hbm, ⟨63, _⟩ => ⟨S64x64, .i32⟩
  | .hbm, ⟨64, _⟩ => ⟨S_, .i32⟩
  | .hbm, ⟨65, _⟩ => ⟨S64x64, .i32⟩
  | .hbm, ⟨66, _⟩ => ⟨S64x64, .i32⟩
  | .hbm, ⟨67, _⟩ => ⟨S64x64, .i32⟩
  | .hbm, ⟨68, _⟩ => ⟨S64x64, .i1⟩
  | .hbm, ⟨69, _⟩ => ⟨S_, .i1⟩
  | .hbm, ⟨70, _⟩ => ⟨S64x64, .i1⟩
  | .hbm, ⟨71, _⟩ => ⟨S64x64, .i1⟩
  | .hbm, ⟨72, _⟩ => ⟨S32x16x6x64x64, .f32⟩
  | .hbm, ⟨73, _⟩ => ⟨S32x16x6x64, .f32⟩
  | .hbm, ⟨74, _⟩ => ⟨S32x16x6x64x1, .f32⟩
  | .hbm, ⟨75, _⟩ => ⟨S32x16x6x64x64, .f32⟩
  | .hbm, ⟨76, _⟩ => ⟨S32x16x6x64x64, .f32⟩
  | .hbm, ⟨77, _⟩ => ⟨S32x16x6x1x1, .f32⟩
  | .hbm, ⟨78, _⟩ => ⟨S32x16x6x64x64, .f32⟩
  | .hbm, ⟨79, _⟩ => ⟨S32x16x6x64x64, .f32⟩
  | .hbm, ⟨80, _⟩ => ⟨S_, .f32⟩
  | .hbm, ⟨81, _⟩ => ⟨S_, .f32⟩
  | .hbm, ⟨82, _⟩ => ⟨S32x16x6x64x64, .i1⟩
  | .hbm, ⟨83, _⟩ => ⟨S32x16x6x64x64, .f32⟩
  | .hbm, ⟨84, _⟩ => ⟨S32x16x6x64x64, .f32⟩
  | .hbm, ⟨85, _⟩ => ⟨S32x16x6x64x64, .bf16⟩
  | .hbm, ⟨86, _⟩ => ⟨S32x16x6x64x64, .f32⟩
  | .hbm, ⟨87, _⟩ => ⟨S32x16x6, .f32⟩
  | .hbm, ⟨88, _⟩ => ⟨S32x16x6x1x1, .f32⟩
  | .hbm, ⟨89, _⟩ => ⟨S32x16x6x64x64, .f32⟩
  | .hbm, ⟨90, _⟩ => ⟨S32x16x6x64x64, .f32⟩
  | .hbm, ⟨91, _⟩ => ⟨S_, .f32⟩
  | .hbm, ⟨92, _⟩ => ⟨S_, .f32⟩
  | .hbm, ⟨93, _⟩ => ⟨S32x16x6x64x64, .i1⟩
  | .hbm, ⟨94, _⟩ => ⟨S32x16x6x64x64, .f32⟩
  | .hbm, ⟨95, _⟩ => ⟨S32x16x6x64x64, .f32⟩
  | .hbm, ⟨96, _⟩ => ⟨S32x16x6x64x64, .bf16⟩
  | .hbm, ⟨97, _⟩ => ⟨S32x16x6x128x64, .f32⟩
  | .hbm, ⟨98, _⟩ => ⟨S32x16x64x6x128, .f32⟩
  | .hbm, ⟨99, _⟩ => ⟨S32x16x6x128x64, .f32⟩
  | .hbm, ⟨100, _⟩ => ⟨S32x16x64x6x128, .f32⟩
  | .hbm, ⟨101, _⟩ => ⟨S32x16x64x6x128, .f32⟩
  | .hbm, ⟨102, _⟩ => ⟨S32x16x6x128x64, .f32⟩
  | .hbm, ⟨103, _⟩ => ⟨S32x16x64x6x128, .f32⟩
  | .hbm, ⟨104, _⟩ => ⟨S32x16x6x128x64, .f32⟩
  | .hbm, ⟨105, _⟩ => ⟨S32x16x64x6x128, .f32⟩
  | .hbm, ⟨106, _⟩ => ⟨S32x16x64x6x128, .f32⟩
  | .hbm, ⟨107, _⟩ => ⟨S32x16x6x256x64, .f32⟩
  | .hbm, ⟨108, _⟩ => ⟨S32x16x64x6x256, .f32⟩
  | .hbm, ⟨109, _⟩ => ⟨S32x16x6x256x64, .f32⟩
  | .hbm, ⟨110, _⟩ => ⟨S32x16x64x6x256, .f32⟩
  | .hbm, ⟨111, _⟩ => ⟨S32x16x64x6x256, .f32⟩
  | .hbm, ⟨112, _⟩ => ⟨S_, .f32⟩
  | .hbm, ⟨113, _⟩ => ⟨S32x16x64x6x128, .f32⟩
  | .hbm, ⟨114, _⟩ => ⟨S32x16x64x6x128, .f32⟩
  | .hbm, ⟨115, _⟩ => ⟨S32x16x64x6x128, .bf16⟩
  | .hbm, ⟨116, _⟩ => ⟨S32x1024x6x128, .bf16⟩
  | .hbm, ⟨117, _⟩ => ⟨S_, .f32⟩
  | .hbm, ⟨118, _⟩ => ⟨S32x16x64x6x128, .f32⟩
  | .hbm, ⟨119, _⟩ => ⟨S32x16x64x6x128, .f32⟩
  | .hbm, ⟨120, _⟩ => ⟨S32x16x64x6x128, .bf16⟩
  | .hbm, ⟨121, _⟩ => ⟨S32x1024x6x128, .bf16⟩
  | .hbm, ⟨122, _⟩ => ⟨S_, .f32⟩
  | .hbm, ⟨123, _⟩ => ⟨S32x16x64x6x256, .f32⟩
  | .hbm, ⟨124, _⟩ => ⟨S32x16x64x6x256, .f32⟩
  | .hbm, ⟨125, _⟩ => ⟨S32x16x64x6x256, .bf16⟩
  | .hbm, ⟨126, _⟩ => ⟨S32x1024x6x256, .bf16⟩
  | .local _ .vmem, ⟨0, _⟩ => ⟨S32x1024x6x128, .fp8e4m3⟩
  | .local _ .vmem, ⟨1, _⟩ => ⟨S32x1024x6x128, .fp8e4m3⟩
  | .local _ .vmem, ⟨2, _⟩ => ⟨S32x1024x6x256, .fp8e4m3⟩
  | .local _ .vmem, ⟨3, _⟩ => ⟨S32x1024x6x256, .fp8e5m2⟩
  | .local _ .vmem, ⟨4, _⟩ => ⟨S32x1024x6x128, .bf16⟩
  | .local _ .vmem, ⟨5, _⟩ => ⟨S32x1024x6x128, .bf16⟩
  | .local _ .vmem, ⟨6, _⟩ => ⟨S32x1024x6x256, .bf16⟩
  | .local _ .vmem, ⟨7, _⟩ => ⟨S32x1024x6x256, .bf16⟩
  | _, _ => ⟨S32x1024x6x128, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_call0_call0_cst : Ref sig .tc := ⟨.hbm, 43, rfl⟩
abbrev main_call0_call0_v0 : Ref sig .tc := ⟨.hbm, 44, rfl⟩
abbrev main_v32 : Ref sig .tc := ⟨.hbm, 45, rfl⟩
abbrev main_v33 : Ref sig .tc := ⟨.hbm, 46, rfl⟩
abbrev main_cst : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_call1_cst : Ref sig .tc := ⟨.hbm, 52, rfl⟩
abbrev main_call1_v0 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_0 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c : Ref sig .tc := ⟨.hbm, 61, rfl⟩
abbrev main_v44 : Ref sig .tc := ⟨.hbm, 62, rfl⟩
abbrev main_call2_v0 : Ref sig .tc := ⟨.hbm, 63, rfl⟩
abbrev main_call2_c : Ref sig .tc := ⟨.hbm, 64, rfl⟩
abbrev main_call2_v1 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_c_0 : Ref sig .tc := ⟨.hbm, 69, rfl⟩
abbrev main_call2_v5 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_1 : Ref sig .tc := ⟨.hbm, 80, rfl⟩
abbrev main_call3_v0 : Ref sig .tc := ⟨.hbm, 81, rfl⟩
abbrev main_call3_v1 : Ref sig .tc := ⟨.hbm, 82, rfl⟩
abbrev main_call3_v2 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_2 : Ref sig .tc := ⟨.hbm, 91, rfl⟩
abbrev main_call4_v0 : Ref sig .tc := ⟨.hbm, 92, rfl⟩
abbrev main_call4_v1 : Ref sig .tc := ⟨.hbm, 93, rfl⟩
abbrev main_call4_v2 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_cst_3 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_4 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_cst_5 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S32x1024x6x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x1024x6x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1024x6x256 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x1024x6x256 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x1024x6x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x1024x6x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x1024x6x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x1024x6x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Sums.lean ====
/- Finite sums of real numbers over natural-number positions, cut into blocks. -/
module

public import Mathlib.Algebra.BigOperators.Intervals
public import Mathlib.Algebra.BigOperators.Ring.Finset
public import Mathlib.Data.Real.Basic
public import Mathlib.Tactic.Ring
public import Mathlib.Tactic.Linarith

@[expose] public section

namespace LinAttn

open Finset

/-- A sum over the positions of the blocks `a, …, b - 1` of length `B` is the sum over the blocks of the sums inside
each. -/
theorem sum_blocks (B a b : ℕ) (h : a ≤ b) (f : ℕ → ℝ) :
    ∑ m ∈ Ico a b, ∑ j ∈ range B, f (B * m + j) = ∑ x ∈ Ico (B * a) (B * b), f x := by
  induction b, h using Nat.le_induction with
  | base => simp
  | succ n hn ih =>
    rw [sum_Ico_succ_top hn, ih, ← sum_Ico_consecutive f (Nat.mul_le_mul_left B hn)
      (Nat.mul_le_mul_left B (Nat.le_succ n)), sum_Ico_eq_sum_range f (B * n)]
    have : B * (n + 1) - B * n = B := by rw [Nat.mul_succ]; omega
    rw [this]

/-- The terms up to position `B * c + r` are those of the blocks before block `c` and, in block `c`, those up to
`r`. -/
theorem sum_upto (B c r N : ℕ) (hr : r < B) (hN : B * (c + 1) ≤ N) (f : ℕ → ℝ) :
    (∑ s ∈ range N, if s ≤ B * c + r then f s else 0)
      = ∑ x ∈ Ico (B * 0) (B * c), f x + ∑ j ∈ range B, if j ≤ r then f (B * c + j) else 0 := by
  have e : B * (c + 1) = B * c + B := by ring
  rw [range_eq_Ico, ← sum_Ico_consecutive _ (Nat.zero_le (B * c)) (by omega : B * c ≤ N),
    ← sum_Ico_consecutive _ (by omega : B * c ≤ B * (c + 1)) hN]
  have h1 : ∑ s ∈ Ico 0 (B * c), (if s ≤ B * c + r then f s else 0) = ∑ x ∈ Ico (B * 0) (B * c), f x := by
    rw [Nat.mul_zero]
    exact sum_congr rfl fun x hx => if_pos (by have := (mem_Ico.1 hx).2; omega)
  have h2 : ∑ s ∈ Ico (B * (c + 1)) N, (if s ≤ B * c + r then f s else 0) = 0 :=
    sum_eq_zero fun x hx => if_neg (by have := (mem_Ico.1 hx).1; omega)
  have h3 : ∑ s ∈ Ico (B * c) (B * (c + 1)), (if s ≤ B * c + r then f s else 0)
      = ∑ j ∈ Ico 0 B, if j ≤ r then f (B * c + j) else 0 := by
    rw [sum_Ico_eq_sum_range, range_eq_Ico, show B * (c + 1) - B * c = B by omega]
    exact sum_congr rfl fun x _ => by simp only [Nat.add_le_add_iff_left]
  rw [h1, h2, h3, add_zero, ← range_eq_Ico]

/-- The terms from position `B * c + r` on are, in block `c`, those from `r` on and those of all later positions. -/
theorem sum_from (B c r N : ℕ) (hr : r < B) (hN : B * (c + 1) ≤ N) (f : ℕ → ℝ) :
    (∑ s ∈ range N, if B * c + r ≤ s then f s else 0)
      = (∑ j ∈ range B, if r ≤ j then f (B * c + j) else 0) + ∑ x ∈ Ico (B * (c + 1)) N, f x := by
  have e : B * (c + 1) = B * c + B := by ring
  rw [range_eq_Ico, ← sum_Ico_consecutive _ (Nat.zero_le (B * c)) (by omega : B * c ≤ N),
    ← sum_Ico_consecutive _ (by omega : B * c ≤ B * (c + 1)) hN]
  have h1 : ∑ s ∈ Ico 0 (B * c), (if B * c + r ≤ s then f s else 0) = 0 :=
    sum_eq_zero fun x hx => if_neg (by have := (mem_Ico.1 hx).2; omega)
  have h2 : ∑ s ∈ Ico (B * (c + 1)) N, (if B * c + r ≤ s then f s else 0) = ∑ x ∈ Ico (B * (c + 1)) N, f x :=
    sum_congr rfl fun x hx => if_pos (by have := (mem_Ico.1 hx).1; omega)
  have h3 : ∑ s ∈ Ico (B * c) (B * (c + 1)), (if B * c + r ≤ s then f s else 0)
      = ∑ j ∈ Ico 0 B, if r ≤ j then f (B * c + j) else 0 := by
    rw [sum_Ico_eq_sum_range, range_eq_Ico, show B * (c + 1) - B * c = B by omega]
    exact sum_congr rfl fun x _ => by simp only [Nat.add_le_add_iff_left]
  rw [h1, h2, h3, zero_add, ← range_eq_Ico]

/-- A sum of products with a matrix that is itself a sum of outer products: the inner products come first. -/
theorem sum_outer (X : Finset ℕ) (n : ℕ) (a : ℕ → ℝ) (v : ℕ → ℕ → ℝ) (w : ℕ → ℝ) :
    ∑ e ∈ range n, (∑ x ∈ X, a x * v x e) * w e = ∑ x ∈ X, a x * ∑ e ∈ range n, w e * v x e := by
  simp only [sum_mul, mul_sum]
  rw [sum_comm]
  exact sum_congr rfl fun x _ => sum_congr rfl fun e _ => by ring

end LinAttn
end
-- ==== Proof.Spec.lean ====
/- The three gradients of causal linear attention over real data, as plain sums over all earlier or later positions; the
   blocked sums two programs compute for them; and that the blocked sums are those gradients. One batch entry and one
   head throughout. -/
module

public import proofs.«01_k».proof.Proof.Sums

@[expose] public section

noncomputable section

namespace LinAttn

open Finset

/-- The data of one batch entry and head: the rows of `q`, `k`, `v`, `dO` by position, the scales of `q`, `k`, `v` by
chunk of 64 positions, the scale of `dO` by position, and the score scale. -/
structure Data where
  q : ℕ → ℕ → ℝ
  k : ℕ → ℕ → ℝ
  v : ℕ → ℕ → ℝ
  dO : ℕ → ℕ → ℝ
  qs : ℕ → ℝ
  ks : ℕ → ℝ
  vs : ℕ → ℝ
  dos : ℕ → ℝ
  c : ℝ

variable (X : Data)

/-- The inner product of row `t` of `dO` with row `s` of `v`. -/
def Data.D (t s : ℕ) : ℝ := ∑ e ∈ range 256, X.dO t e * X.v s e

/-- Row `s` of `k` under the scales of `k` and `v`. -/
def Data.kt (s d : ℕ) : ℝ := X.k s d * (X.ks (s / 64) * X.vs (s / 64))

/-- Row `t` of `q` under the scales of `q` and `dO`. -/
def Data.qt (t d : ℕ) : ℝ := X.q t d * (X.qs (t / 64) * X.dos t)

/-- The gradient of `q`: over all positions up to `t`. -/
def Data.dq (t d : ℕ) : ℝ :=
  (∑ s ∈ range 1024, if s ≤ t then X.kt s d * X.D t s else 0) * (X.dos t * X.c)

/-- The gradient of `k`: over all positions from `s` on. -/
def Data.dk (s d : ℕ) : ℝ :=
  (∑ t ∈ range 1024, if s ≤ t then X.qt t d * X.D t s else 0) * (X.vs (s / 64) * X.c)

/-- The gradient of `v`: over all positions from `s` on. -/
def Data.dv (s e : ℕ) : ℝ :=
  (∑ t ∈ range 1024, if s ≤ t then
    ((∑ d ∈ range 128, X.k s d * X.q t d) * (X.qs (t / 64) * X.dos t)) * X.dO t e else 0) * (X.ks (s / 64) * X.c)

/-! ## In blocks of 256 and halves of 128 -/

/-- The inner products of block `c`, zero above the diagonal. -/
def Data.dm (c r j : ℕ) : ℝ := if j ≤ r then X.D (256 * c + r) (256 * c + j) else 0

/-- What block `c` adds to the running state. -/
def Data.u (c d e : ℕ) : ℝ := ∑ j ∈ range 256, X.kt (256 * c + j) d * X.v (256 * c + j) e

/-- The state before block `c`. -/
def Data.state (c d e : ℕ) : ℝ := ∑ m ∈ Ico 0 c, X.u m d e

/-- What half `g` adds to the running gradient of the state. -/
def Data.w (g d e : ℕ) : ℝ := ∑ j ∈ range 128, X.qt (128 * g + j) d * X.dO (128 * g + j) e

/-- The gradient of the state after half `g`. -/
def Data.grad (g d e : ℕ) : ℝ := ∑ m ∈ Ico (g + 1) 8, X.w m d e

/-- The scaled scores of half `g`, zero below the diagonal. -/
def Data.p (g r j : ℕ) : ℝ :=
  (if r ≤ j then ∑ d ∈ range 128, X.k (128 * g + r) d * X.q (128 * g + j) d else 0)
    * (X.qs ((128 * g + j) / 64) * X.dos (128 * g + j))

/-- Row `r` of block `c` of the gradient of `q`. -/
theorem Data.dq_block (c r d : ℕ) (hc : c < 4) (hr : r < 256) :
    X.dq (256 * c + r) d
      = (∑ j ∈ range 256, X.kt (256 * c + j) d * X.dm c r j
          + ∑ e ∈ range 256, X.state c d e * X.dO (256 * c + r) e) * (X.dos (256 * c + r) * X.c) := by
  unfold Data.dq
  rw [sum_upto 256 c r 1024 hr (by omega)]
  congr 1
  unfold Data.state Data.u
  simp only [fun e => sum_blocks 256 0 c (Nat.zero_le c) (fun x => X.kt x d * X.v x e)]
  rw [sum_outer, add_comm]
  congr 1
  exact sum_congr rfl fun j _ => by unfold Data.dm; split_ifs <;> simp

/-- Row `r` of block `c` of the gradient of `k`. -/
theorem Data.dk_block (c r d : ℕ) (hc : c < 4) (hr : r < 256) :
    X.dk (256 * c + r) d
      = (∑ j ∈ range 256, X.qt (256 * c + j) d * X.dm c j r
          + ∑ e ∈ range 256, X.grad (2 * c + 1) d e * X.v (256 * c + r) e) * (X.vs ((256 * c + r) / 64) * X.c) := by
  unfold Data.dk
  rw [sum_from 256 c r 1024 hr (by omega)]
  congr 1
  unfold Data.grad Data.w
  simp only [fun e => sum_blocks 128 (2 * c + 1 + 1) 8 (by omega) (fun x => X.qt x d * X.dO x e)]
  rw [sum_outer, show 128 * (2 * c + 1 + 1) = 256 * (c + 1) by ring]
  congr 1
  · exact sum_congr rfl fun j _ => by unfold Data.dm; split_ifs <;> simp
  · exact sum_congr rfl fun x _ => by
      unfold Data.D
      congr 1
      exact sum_congr rfl fun e _ => mul_comm _ _

/-- Row `r` of half `g` of the gradient of `v`. -/
theorem Data.dv_half (g r e : ℕ) (hg : g < 8) (hr : r < 128) :
    X.dv (128 * g + r) e
      = (∑ j ∈ range 128, X.p g r j * X.dO (128 * g + j) e
          + ∑ d ∈ range 128, X.k (128 * g + r) d * X.grad g d e) * (X.ks ((128 * g + r) / 64) * X.c) := by
  unfold Data.dv
  rw [sum_from 128 g r 1024 hr (by omega)]
  congr 1
  unfold Data.grad Data.w
  simp only [fun d => sum_blocks 128 (g + 1) 8 (by omega) (fun x => X.qt x d * X.dO x e)]
  congr 1
  · exact sum_congr rfl fun j _ => by unfold Data.p; split_ifs <;> simp
  · simp only [mul_sum, sum_mul]
    rw [sum_comm]
    exact sum_congr rfl fun d _ => sum_congr rfl fun t _ => by unfold Data.qt; ring

/-! ## In chunks of 64 -/

/-- The state before chunk `n`: each chunk's outer products are scaled once. -/
def Data.cstate (n d e : ℕ) : ℝ :=
  ∑ m ∈ Ico 0 n, (∑ j ∈ range 64, X.k (64 * m + j) d * X.v (64 * m + j) e) * (X.ks m * X.vs m)

/-- The gradient of the state after chunk `n`, from scaled rows. -/
def Data.cgrad (n d e : ℕ) : ℝ :=
  ∑ m ∈ Ico (n + 1) 16, ∑ j ∈ range 64,
    (X.q (64 * m + j) d * X.qs m) * (X.dO (64 * m + j) e * X.dos (64 * m + j))

/-- The masked, scaled inner products of chunk `n`. -/
def Data.cA (n r j : ℕ) : ℝ :=
  if j ≤ r then X.D (64 * n + r) (64 * n + j) * X.dos (64 * n + r) * X.vs n else 0

/-- The masked, scaled scores of chunk `n`. -/
def Data.cP (n r j : ℕ) : ℝ :=
  if j ≤ r then (∑ d ∈ range 128, X.q (64 * n + r) d * X.k (64 * n + j) d) * (X.qs n * X.ks n) else 0

theorem div_chunk (n j : ℕ) (hj : j < 64) : (64 * n + j) / 64 = n := by omega

theorem Data.cstate_eq (n d e : ℕ) :
    X.cstate n d e = ∑ x ∈ Ico (64 * 0) (64 * n), X.kt x d * X.v x e := by
  rw [← sum_blocks 64 0 n (Nat.zero_le n)]
  unfold Data.cstate Data.kt
  refine sum_congr rfl fun m _ => ?_
  rw [sum_mul]
  refine sum_congr rfl fun j hj => ?_
  rw [div_chunk m j (mem_range.1 hj)]
  ring

theorem Data.cgrad_eq (n d e : ℕ) (hn : n < 16) :
    X.cgrad n d e = ∑ x ∈ Ico (64 * (n + 1)) (64 * 16), X.qt x d * X.dO x e := by
  rw [← sum_blocks 64 (n + 1) 16 (by omega)]
  unfold Data.cgrad Data.qt
  refine sum_congr rfl fun m _ => sum_congr rfl fun j hj => ?_
  rw [div_chunk m j (mem_range.1 hj)]
  ring

/-- Row `r` of chunk `n` of the gradient of `q`. -/
theorem Data.dq_chunk (n r d : ℕ) (hn : n < 16) (hr : r < 64) :
    X.dq (64 * n + r) d
      = (∑ e ∈ range 256, (X.dO (64 * n + r) e * X.dos (64 * n + r)) * X.cstate n d e
          + ∑ j ∈ range 64, X.cA n r j * (X.k (64 * n + j) d * X.ks n)) * X.c := by
  unfold Data.dq
  rw [sum_upto 64 n r 1024 hr (by omega)]
  have h1 : ∑ e ∈ range 256, (X.dO (64 * n + r) e * X.dos (64 * n + r)) * X.cstate n d e
      = (∑ x ∈ Ico (64 * 0) (64 * n), X.kt x d * X.D (64 * n + r) x) * X.dos (64 * n + r) := by
    unfold Data.D
    rw [← sum_outer, sum_mul]
    exact sum_congr rfl fun e _ => by rw [X.cstate_eq]; ring
  have h2 : ∑ j ∈ range 64, X.cA n r j * (X.k (64 * n + j) d * X.ks n)
      = (∑ j ∈ range 64, if j ≤ r then X.kt (64 * n + j) d * X.D (64 * n + r) (64 * n + j) else 0)
        * X.dos (64 * n + r) := by
    rw [sum_mul]
    refine sum_congr rfl fun j hj => ?_
    unfold Data.cA Data.kt
    rw [div_chunk n j (mem_range.1 hj)]
    split_ifs <;> ring
  rw [h1, h2]
  ring

/-- Row `r` of chunk `n` of the gradient of `k`. -/
theorem Data.dk_chunk (n r d : ℕ) (hn : n < 16) (hr : r < 64) :
    X.dk (64 * n + r) d
      = (∑ e ∈ range 256, (X.v (64 * n + r) e * X.vs n) * X.cgrad n d e
          + ∑ j ∈ range 64, X.cA n j r * (X.q (64 * n + j) d * X.qs n)) * X.c := by
  unfold Data.dk
  rw [sum_from 64 n r 1024 hr (by omega), div_chunk n r hr]
  have h1 : ∑ e ∈ range 256, (X.v (64 * n + r) e * X.vs n) * X.cgrad n d e
      = (∑ x ∈ Ico (64 * (n + 1)) 1024, X.qt x d * X.D x (64 * n + r)) * X.vs n := by
    have : ∀ x, X.D x (64 * n + r) = ∑ e ∈ range 256, X.v (64 * n + r) e * X.dO x e := fun x =>
      sum_congr rfl fun e _ => mul_comm _ _
    simp only [this]
    rw [← sum_outer, sum_mul]
    exact sum_congr rfl fun e _ => by rw [X.cgrad_eq n d e hn]; ring
  have h2 : ∑ j ∈ range 64, X.cA n j r * (X.q (64 * n + j) d * X.qs n)
      = (∑ j ∈ range 64, if r ≤ j then X.qt (64 * n + j) d * X.D (64 * n + j) (64 * n + r) else 0) * X.vs n := by
    rw [sum_mul]
    refine sum_congr rfl fun j hj => ?_
    unfold Data.cA Data.qt
    rw [div_chunk n j (mem_range.1 hj)]
    split_ifs <;> ring
  rw [h1, h2]
  ring

/-- Row `r` of chunk `n` of the gradient of `v`. -/
theorem Data.dv_chunk (n r e : ℕ) (hn : n < 16) (hr : r < 64) :
    X.dv (64 * n + r) e
      = (∑ d ∈ range 128, (X.k (64 * n + r) d * X.ks n) * X.cgrad n d e
          + ∑ j ∈ range 64, X.cP n j r * (X.dO (64 * n + j) e * X.dos (64 * n + j))) * X.c := by
  unfold Data.dv
  rw [sum_from 64 n r 1024 hr (by omega), div_chunk n r hr]
  have h1 : ∑ d ∈ range 128, (X.k (64 * n + r) d * X.ks n) * X.cgrad n d e
      = (∑ t ∈ Ico (64 * (n + 1)) 1024,
          ((∑ d ∈ range 128, X.k (64 * n + r) d * X.q t d) * (X.qs (t / 64) * X.dos t)) * X.dO t e) * X.ks n := by
    simp only [X.cgrad_eq n _ e hn, mul_sum, sum_mul]
    rw [sum_comm]
    exact sum_congr rfl fun t _ => sum_congr rfl fun d _ => by unfold Data.qt; ring
  have h2 : ∑ j ∈ range 64, X.cP n j r * (X.dO (64 * n + j) e * X.dos (64 * n + j))
      = (∑ j ∈ range 64, if r ≤ j then ((∑ d ∈ range 128, X.k (64 * n + r) d * X.q (64 * n + j) d)
          * (X.qs ((64 * n + j) / 64) * X.dos (64 * n + j))) * X.dO (64 * n + j) e else 0) * X.ks n := by
    rw [sum_mul]
    refine sum_congr rfl fun j hj => ?_
    unfold Data.cP
    rw [div_chunk n j (mem_range.1 hj)]
    have : ∑ d ∈ range 128, X.q (64 * n + j) d * X.k (64 * n + r) d
        = ∑ d ∈ range 128, X.k (64 * n + r) d * X.q (64 * n + j) d := sum_congr rfl fun d _ => mul_comm _ _
    rw [this]
    split_ifs <;> ring
  rw [h1, h2]
  ring

end LinAttn
end
end
-- ==== Proof.Args.lean ====
/- The programs' eight arguments as extended reals, and the real numbers of one batch entry and head. -/
module

public import proofs.«01_k».proof.Proof.Spec
public import Idealize.ShloMosaic.PureOps.Ideal.Laws
public import Idealize.ShloMosaic.Lib.ValueIdx

@[expose] public section

noncomputable section

namespace LinAttn

open Idealize.ShloMosaic Idealize.ShloMosaic.ValueIdx

/-- The factor every result is multiplied with, `128 ^ (-1/2)` in single precision. -/
def scaleWord : EReal := Ideal.ofBits .f32 0x3DB504F3#32

theorem scaleWord_real : scaleWord = ((scaleWord.toReal : ℝ) : EReal) := by
  have h : ∃ r : ℝ, scaleWord = (r : EReal) := by
    unfold scaleWord Ideal.ofBits Ideal.ieee
    simp
    exact ⟨_, (EReal.coe_mul _ _).symm⟩
  obtain ⟨r, hr⟩ := h
  rw [hr, EReal.toReal_coe]

/-- The arguments: four arrays of decoded eight-bit numbers and four arrays of scales. -/
structure Args where
  q : (⟨4, ![32, 1024, 6, 128]⟩ : Shape).Idx → EReal
  k : (⟨4, ![32, 1024, 6, 128]⟩ : Shape).Idx → EReal
  v : (⟨4, ![32, 1024, 6, 256]⟩ : Shape).Idx → EReal
  dO : (⟨4, ![32, 1024, 6, 256]⟩ : Shape).Idx → EReal
  qs : (⟨3, ![32, 16, 6]⟩ : Shape).Idx → EReal
  ks : (⟨3, ![32, 16, 6]⟩ : Shape).Idx → EReal
  vs : (⟨3, ![32, 16, 6]⟩ : Shape).Idx → EReal
  dos : (⟨3, ![32, 1024, 6]⟩ : Shape).Idx → EReal

namespace Args

/-- Every element is a real number. -/
structure Real (A : Args) : Prop where
  q : ∀ i, A.q i = (((A.q i).toReal : ℝ) : EReal)
  k : ∀ i, A.k i = (((A.k i).toReal : ℝ) : EReal)
  v : ∀ i, A.v i = (((A.v i).toReal : ℝ) : EReal)
  dO : ∀ i, A.dO i = (((A.dO i).toReal : ℝ) : EReal)
  qs : ∀ i, A.qs i = (((A.qs i).toReal : ℝ) : EReal)
  ks : ∀ i, A.ks i = (((A.ks i).toReal : ℝ) : EReal)
  vs : ∀ i, A.vs i = (((A.vs i).toReal : ℝ) : EReal)
  dos : ∀ i, A.dos i = (((A.dos i).toReal : ℝ) : EReal)

/-- The real numbers of batch entry `b` and head `h`. -/
def data (A : Args) (b : Fin 32) (h : Fin 6) : Data where
  q t d := (A.q (ix4 b (Fin.ofNat 1024 t) h (Fin.ofNat 128 d))).toReal
  k t d := (A.k (ix4 b (Fin.ofNat 1024 t) h (Fin.ofNat 128 d))).toReal
  v t e := (A.v (ix4 b (Fin.ofNat 1024 t) h (Fin.ofNat 256 e))).toReal
  dO t e := (A.dO (ix4 b (Fin.ofNat 1024 t) h (Fin.ofNat 256 e))).toReal
  qs n := (A.qs (ix3 b (Fin.ofNat 16 n) h)).toReal
  ks n := (A.ks (ix3 b (Fin.ofNat 16 n) h)).toReal
  vs n := (A.vs (ix3 b (Fin.ofNat 16 n) h)).toReal
  dos t := (A.dos (ix3 b (Fin.ofNat 1024 t) h)).toReal
  c := scaleWord.toReal

/-- The three results as arrays: element `(b, t, h, d)` is the one of batch entry `b` and head `h` at row `t`, column `d`. -/
def dqOut (A : Args) : (⟨4, ![32, 1024, 6, 128]⟩ : Shape).Idx → EReal := fun i =>
  (((A.data (i (0 : Fin 4)) (i (2 : Fin 4))).dq (i (1 : Fin 4)).val (i (3 : Fin 4)).val : ℝ) : EReal)
def dkOut (A : Args) : (⟨4, ![32, 1024, 6, 128]⟩ : Shape).Idx → EReal := fun i =>
  (((A.data (i (0 : Fin 4)) (i (2 : Fin 4))).dk (i (1 : Fin 4)).val (i (3 : Fin 4)).val : ℝ) : EReal)
def dvOut (A : Args) : (⟨4, ![32, 1024, 6, 256]⟩ : Shape).Idx → EReal := fun i =>
  (((A.data (i (0 : Fin 4)) (i (2 : Fin 4))).dv (i (1 : Fin 4)).val (i (3 : Fin 4)).val : ℝ) : EReal)

theorem ofNat_val {n : ℕ} [NeZero n] (i : Fin n) : Fin.ofNat n i.val = i := Fin.ext (Nat.mod_eq_of_lt i.isLt)

variable {A : Args} (R : A.Real) (b : Fin 32) (h : Fin 6)
include R

theorem Real.q_eq (t : Fin 1024) (d : Fin 128) : A.q (ix4 b t h d) = (((A.data b h).q t d : ℝ) : EReal) := by
  rw [R.q]; unfold data; dsimp only; rw [ofNat_val, ofNat_val]
theorem Real.k_eq (t : Fin 1024) (d : Fin 128) : A.k (ix4 b t h d) = (((A.data b h).k t d : ℝ) : EReal) := by
  rw [R.k]; unfold data; dsimp only; rw [ofNat_val, ofNat_val]
theorem Real.v_eq (t : Fin 1024) (d : Fin 256) : A.v (ix4 b t h d) = (((A.data b h).v t d : ℝ) : EReal) := by
  rw [R.v]; unfold data; dsimp only; rw [ofNat_val, ofNat_val]
theorem Real.dO_eq (t : Fin 1024) (d : Fin 256) : A.dO (ix4 b t h d) = (((A.data b h).dO t d : ℝ) : EReal) := by
  rw [R.dO]; unfold data; dsimp only; rw [ofNat_val, ofNat_val]
theorem Real.qs_eq (n : Fin 16) : A.qs (ix3 b n h) = (((A.data b h).qs n : ℝ) : EReal) := by
  rw [R.qs]; unfold data; dsimp only; rw [ofNat_val]
theorem Real.ks_eq (n : Fin 16) : A.ks (ix3 b n h) = (((A.data b h).ks n : ℝ) : EReal) := by
  rw [R.ks]; unfold data; dsimp only; rw [ofNat_val]
theorem Real.vs_eq (n : Fin 16) : A.vs (ix3 b n h) = (((A.data b h).vs n : ℝ) : EReal) := by
  rw [R.vs]; unfold data; dsimp only; rw [ofNat_val]
theorem Real.dos_eq (t : Fin 1024) : A.dos (ix3 b t h) = (((A.data b h).dos t : ℝ) : EReal) := by
  rw [R.dos]; unfold data; dsimp only; rw [ofNat_val]

end Args

/-- An extended real that is a real number. -/
theorem eq_toReal {x : EReal} (h : ∃ r : ℝ, x = (r : EReal)) : x = ((x.toReal : ℝ) : EReal) := by
  obtain ⟨r, rfl⟩ := h
  rw [EReal.toReal_coe]

end LinAttn
end
end
-- ==== Proof.Program.lean ====
/- What the kernel computes at one grid point, as a function of the values it reads: for each of four blocks of 256
   positions a block of the gradient of `q` and of `k`, and for each of sixteen chunks of 64 positions a block of the
   gradient of `v`. Over any floating-point arithmetic. -/
module

public import proofs.«01_k».proof.Proof.Gen.KernelIdeal.Skeleton

@[expose] public section

set_option synthInstance.maxSize 4096

noncomputable section

namespace Cert.KernelIdeal

open Idealize.ShloMosaic Gen

variable {F : FTy → Type} [FloatOps F]

/-- The values read at one grid point: scales by chunk, the scale row of `dO` by block of 256 and by half of 128, the
rows of the four operands by block and by half, and the two scratch arrays read back by block. -/
structure Reads (F : FTy → Type) where
  qs : ℕ → F .f32
  ks : ℕ → F .f32
  vs : ℕ → F .f32
  dosB : ℕ → FVec F S1x256 .f32
  dosH : ℕ → FVec F S1x128 .f32
  q : ℕ → FVec F S1x1x256x128 .fp8e4m3
  k : ℕ → FVec F S1x1x256x128 .fp8e4m3
  v : ℕ → FVec F S1x1x256x256 .fp8e4m3
  dO : ℕ → FVec F S1x1x256x256 .fp8e5m2
  qH : ℕ → FVec F S1x1x128x128 .fp8e4m3
  kH : ℕ → FVec F S1x1x128x128 .fp8e4m3
  dOH : ℕ → FVec F S1x1x128x256 .fp8e5m2
  qt : ℕ → FVec F S1x128x256 .bf16
  dm : ℕ → FVec F S1x256x256 .bf16

/-- Two scales, each repeated over 64 lanes. -/
def lanes (a b : F .f32) : FVec F S1x128 .f32 :=
  select (cmpi .slt (iota .tc S1x128 32 [1] iota_S1x128_d1_w32) (broadcast S1x128 64#32)) (broadcast S1x128 a)
    (broadcast S1x128 b)

/-- Four scales, each repeated over 64 lanes. -/
def lanes4 (s : ℕ → F .f32) (n : ℕ) : FVec F S1x256 .f32 :=
  concatenate S1x256 1 [⟨S1x128, lanes (s n) (s (n + 1))⟩, ⟨S1x128, lanes (s (n + 2)) (s (n + 3))⟩]
    concatenates_S1x128_S1x128_S1x256_d1

/-- Rows transposed, and each column multiplied by its scale. -/
def scaledT (x : FVec F S1x1x256x128 .fp8e4m3) (a b : FVec F S1x256 .f32) : FVec F S128x256 .bf16 :=
  mulf (transpose S128x256 [1, 0] (extf .bf16 (shapeCast S256x128 x shapeCasts_S1x1x256x128_S256x128) bitsLt_fp8e4m3_bf16)
      transposes_S256x128_p1_0_S128x256)
    (truncf .bf16 (broadcastTo S128x256 (shapeCast S1x256 (mulf a b) shapeCasts_S1x256_S1x256)
      broadcasts_S1x256_S128x256) bitsLt_bf16_f32)

/-- Where the row is not above the column. -/
def lower : IVec S128x128 1 :=
  cmpi .sge (iota .tc S128x128 32 [0] iota_S128x128_d0_w32) (iota .tc S128x128 32 [1] iota_S128x128_d1_w32)

/-- Where the row is not below the column. -/
def upper : IVec S128x128 1 :=
  cmpi .sle (iota .tc S128x128 32 [0] iota_S128x128_d0_w32) (iota .tc S128x128 32 [1] iota_S128x128_d1_w32)

/-- Where row and column lie in the same chunk of 64. -/
def sameChunk : IVec S128x128 1 :=
  k0_pay7 (iota .tc S128x128 32 [1] iota_S128x128_d1_w32) k0_pay4 64#32 k0_pay5 k0_pay6 1#32

/-- A zero of type f32. -/
def zero32 : F .f32 := Scalar.ofBits .f32 0x00000000#32

/-- The score scale. -/
def outScale : F .f32 := Scalar.ofBits .f32 0x3DB504F3#32

/-- A quarter on the diagonal of the block of inner products, zero above its diagonal. -/
def corner (x : FVec F S128x128 .f32) : FVec F S128x128 .bf16 :=
  truncf .bf16 (select lower x (broadcast S128x128 zero32)) bitsLt_bf16_f32

variable (ρ : Reads F)

/-- The transposed scaled rows of `k`. -/
def kT (c : ℕ) : FVec F S128x256 .bf16 := scaledT (ρ.k c) (lanes4 ρ.ks (4 * c)) (lanes4 ρ.vs (4 * c))

/-- The transposed scaled rows of `q`. -/
def qT (c : ℕ) : FVec F S128x256 .bf16 := scaledT (ρ.q c) (lanes4 ρ.qs (4 * c)) (ρ.dosB c)

/-- The inner products of the rows of `dO` with the rows of `v`. -/
def inner (c : ℕ) : FVec F S256x256 .f32 :=
  matmul dot_S256x256_S256x256_S256x256_1_1_0_0_n_n none (shapeCast S256x256 (ρ.dO c) shapeCasts_S1x1x256x256_S256x256)
    (shapeCast S256x256 (ρ.v c) shapeCasts_S1x1x256x256_S256x256) (constant S256x256 .f32 0x00000000#32)

/-- The inner products with zeros above the diagonal. -/
def masked (c : ℕ) : FVec F S256x256 .bf16 :=
  concatenate S256x256 0
    [⟨S128x256, concatenate S128x256 1
      [⟨S128x128, corner (extractStridedSlice S128x128 ![0, 0] (inner ρ c) slices_S256x256_o0_0_S128x128)⟩,
       ⟨S128x128, broadcast S128x128 (Scalar.ofBits .bf16 0x0000#16)⟩] concatenates_S128x128_S128x128_S128x256_d1⟩,
     ⟨S128x256, concatenate S128x256 1
      [⟨S128x128, truncf .bf16 (extractStridedSlice S128x128 ![128, 0] (inner ρ c) slices_S256x256_o128_0_S128x128)
        bitsLt_bf16_f32⟩,
       ⟨S128x128, corner (extractStridedSlice S128x128 ![128, 128] (inner ρ c) slices_S256x256_o128_128_S128x128)⟩]
      concatenates_S128x128_S128x128_S128x256_d1⟩] concatenates_S128x256_S128x256_S256x256_d0

/-- What block `c` adds to the state. -/
def update (c : ℕ) : FVec F S128x256 .f32 :=
  matmul dot_S128x256_S256x256_S128x256_1_0_0_1_n_n none (kT ρ c)
    (shapeCast S256x256 (ρ.v c) shapeCasts_S1x1x256x256_S256x256) (constant S128x256 .f32 0x00000000#32)

/-- The state after block `c`. -/
def stateAfter : ℕ → FVec F S128x256 .f32
  | 0 => update ρ 0
  | c + 1 => addf (stateAfter c) (update ρ (c + 1))

/-- An accumulator whose columns are scaled, stored transposed. -/
def outT (acc : FVec F S128x256 .f32) (row : FVec F S1x256 .f32) : FVec F S1x1x256x128 .bf16 :=
  shapeCast S1x1x256x128 (transpose S256x128 [1, 0] (truncf .bf16 (mulf acc
    (broadcastTo S128x256 (mulf row (broadcast S1x256 outScale)) broadcasts_S1x256_S128x256)) bitsLt_bf16_f32)
    transposes_S128x256_p1_0_S256x128) shapeCasts_S256x128_S1x1x256x128

/-- The part of a block of the gradient of `q` that comes from the block itself. -/
def dqNear (c : ℕ) : FVec F S128x256 .f32 :=
  matmul dot_S128x256_S256x256_S128x256_1_1_0_0_n_n none (kT ρ c) (masked ρ c) (constant S128x256 .f32 0x00000000#32)

/-- The first block of the gradient of `q`. -/
def dqFirst : FVec F S1x1x256x128 .bf16 := outT (dqNear ρ 0) (ρ.dosB 0)

/-- A later block of the gradient of `q`. -/
def dqBlock (c : ℕ) : FVec F S1x1x256x128 .bf16 :=
  outT (addf (dqNear ρ (c + 1)) (matmul dot_S128x256_S256x256_S128x256_1_1_0_0_n_n none
    (truncf .bf16 (stateAfter ρ c) bitsLt_bf16_f32)
    (shapeCast S256x256 (ρ.dO (c + 1)) shapeCasts_S1x1x256x256_S256x256) (constant S128x256 .f32 0x00000000#32)))
    (ρ.dosB (c + 1))

/-- The scaled rows of `q` read back. -/
def qtB (c : ℕ) : FVec F S128x256 .bf16 := shapeCast S128x256 (ρ.qt c) shapeCasts_S1x128x256_S128x256

/-- What the second half of a block adds to the gradient of the state. -/
def gradOdd (c : ℕ) : FVec F S128x256 .f32 :=
  matmul dot_S128x128_S128x256_S128x256_1_0_0_1_n_n none
    (extractStridedSlice S128x128 ![0, 128] (qtB ρ c) slices_S128x256_o0_128_S128x128)
    (shapeCast S128x256 (ρ.dOH (2 * c + 1)) shapeCasts_S1x1x128x256_S128x256) (constant S128x256 .f32 0x00000000#32)

/-- What the first half of a block adds to the gradient of the state. -/
def gradEven (c : ℕ) : FVec F S128x256 .f32 :=
  matmul dot_S128x128_S128x256_S128x256_1_0_0_1_n_n none
    (extractStridedSlice S128x128 ![0, 0] (qtB ρ c) slices_S128x256_o0_0_S128x128)
    (shapeCast S128x256 (ρ.dOH (2 * c)) shapeCasts_S1x1x128x256_S128x256) (constant S128x256 .f32 0x00000000#32)

/-- What each half adds to the gradient of the state, from the last half on. -/
def gradPart : ℕ → FVec F S128x256 .f32
  | 0 => gradOdd ρ 3
  | 1 => gradEven ρ 3
  | 2 => gradOdd ρ 2
  | 3 => gradEven ρ 2
  | 4 => gradOdd ρ 1
  | 5 => gradEven ρ 1
  | _ => gradOdd ρ 0

/-- The gradient of the state with the last `n + 1` halves in it. -/
def gradSum : ℕ → FVec F S128x256 .f32
  | 0 => gradPart ρ 0
  | n + 1 => addf (gradSum n) (gradPart ρ (n + 1))

/-- The part of a block of the gradient of `k` that comes from the block itself. -/
def dkNear (c : ℕ) : FVec F S128x256 .f32 :=
  matmul dot_S128x256_S256x256_S128x256_1_0_0_1_n_n none (qtB ρ c)
    (shapeCast S256x256 (ρ.dm c) shapeCasts_S1x256x256_S256x256) (constant S128x256 .f32 0x00000000#32)

/-- The last block of the gradient of `k`. -/
def dkLast : FVec F S1x1x256x128 .bf16 := outT (dkNear ρ 3) (lanes4 ρ.vs 12)

/-- An earlier block of the gradient of `k`, with the `n + 1` halves after it. -/
def dkBlock (c n : ℕ) : FVec F S1x1x256x128 .bf16 :=
  outT (addf (dkNear ρ c) (matmul dot_S128x256_S256x256_S128x256_1_1_0_0_n_n none
    (truncf .bf16 (gradSum ρ n) bitsLt_bf16_f32) (shapeCast S256x256 (ρ.v c) shapeCasts_S1x1x256x256_S256x256)
    (constant S128x256 .f32 0x00000000#32))) (lanes4 ρ.vs (4 * c))

/-- The rows of `q` of one half. -/
def qHalf (g : ℕ) : FVec F S128x128 .fp8e4m3 := shapeCast S128x128 (ρ.qH g) shapeCasts_S1x1x128x128_S128x128

/-- The rows of `k` of one half. -/
def kHalf (g : ℕ) : FVec F S128x128 .fp8e4m3 := shapeCast S128x128 (ρ.kH g) shapeCasts_S1x1x128x128_S128x128

/-- The scores inside one chunk. -/
def near (g : ℕ) : FVec F S128x128 .f32 :=
  select (andi upper sameChunk) (matmul dot_S128x128_S128x128_S128x128_1_1_0_0_n_n none (kHalf ρ g) (qHalf ρ g)
    (constant S128x128 .f32 0x00000000#32)) (broadcast S128x128 zero32)

/-- The scores of the first chunk's keys with all queries of the half. -/
def far (g : ℕ) : FVec F S64x128 .f32 :=
  matmul dot_S64x128_S128x128_S64x128_1_1_0_0_n_n none
    (extractStridedSlice S64x128 ![0, 0] (extf .bf16 (kHalf ρ g) bitsLt_fp8e4m3_bf16) slices_S128x128_o0_0_S64x128)
    (qHalf ρ g) (constant S64x128 .f32 0x00000000#32)

/-- The scores of one half, zero below the diagonal. -/
def scores (g : ℕ) : FVec F S128x128 .f32 :=
  concatenate S128x128 0
    [⟨S64x128, select (cmpi .slt (extractStridedSlice S64x128 ![0, 0] (iota .tc S128x128 32 [1] iota_S128x128_d1_w32)
        slices_S128x128_o0_0_S64x128) (broadcast S64x128 64#32))
      (extractStridedSlice S64x128 ![0, 0] (near ρ g) slices_S128x128_o0_0_S64x128) (far ρ g)⟩,
     ⟨S64x128, extractStridedSlice S64x128 ![64, 0] (near ρ g) slices_S128x128_o64_0_S64x128⟩]
    concatenates_S64x128_S64x128_S128x128_d0

/-- The scaled scores of one half. -/
def scaledScores (g : ℕ) : FVec F S128x128 .bf16 :=
  truncf .bf16 (mulf (scores ρ g) (broadcastTo S128x128 (mulf (lanes (ρ.qs (2 * g)) (ρ.qs (2 * g + 1))) (ρ.dosH g))
    broadcasts_S1x128_S128x128)) bitsLt_bf16_f32

/-- The part of one half of the gradient of `v` that comes from the half itself. -/
def dvNear (g : ℕ) : FVec F S128x256 .f32 :=
  matmul dot_S128x128_S128x256_S128x256_1_0_0_1_n_n none (scaledScores ρ g)
    (shapeCast S128x256 (ρ.dOH g) shapeCasts_S1x1x128x256_S128x256) (constant S128x256 .f32 0x00000000#32)

/-- One half of the gradient of `v` before its scale, with the `n + 1` halves after it. -/
def dvAcc (g n : ℕ) : FVec F S128x256 .f32 :=
  addf (dvNear ρ g) (matmul dot_S128x128_S128x256_S128x256_1_0_0_1_n_n none
    (extf .bf16 (kHalf ρ g) bitsLt_fp8e4m3_bf16) (truncf .bf16 (gradSum ρ n) bitsLt_bf16_f32)
    (constant S128x256 .f32 0x00000000#32))

/-- The first chunk of a half, scaled. -/
def outTop (acc : FVec F S128x256 .f32) (s : F .f32) : FVec F S1x1x64x256 .bf16 :=
  shapeCast S1x1x64x256 (truncf .bf16 (mulf (extractStridedSlice S64x256 ![0, 0] acc slices_S128x256_o0_0_S64x256)
    (broadcast S64x256 (Scalar.mulf s outScale))) bitsLt_bf16_f32) shapeCasts_S64x256_S1x1x64x256

/-- The second chunk of a half, scaled. -/
def outBottom (acc : FVec F S128x256 .f32) (s : F .f32) : FVec F S1x1x64x256 .bf16 :=
  shapeCast S1x1x64x256 (truncf .bf16 (mulf (extractStridedSlice S64x256 ![64, 0] acc slices_S128x256_o64_0_S64x256)
    (broadcast S64x256 (Scalar.mulf s outScale))) bitsLt_bf16_f32) shapeCasts_S64x256_S1x1x64x256

end Cert.KernelIdeal

end
end
-- ==== Proof.Leaves.lean ====
/- The values the kernel's body reads at one grid point, from the arrays in its windows. -/
module

public import proofs.«01_k».proof.Proof.Program
public import proofs.«01_k».proof.Proof.Gen.KernelIdeal.Frame.Runs

@[expose] public section

set_option synthInstance.maxSize 4096

noncomputable section

namespace Cert.KernelIdeal

open Idealize.ShloMosaic Gen

variable {F : FTy → Type} [FloatOps F]

/-- Where a scale of chunk `n` lies: by head, chunk and batch entry. -/
def scaleOff (i : grid0.Coords) (n : Fin 16) : Fin 3 → ℕ :=
  ![(Scalar.indexCast (Scalar.addi (Scalar.muli (BitVec.ofNat 32 (i 1).val) 1#32) 0#32)).toNat, n.val,
    (Scalar.indexCast (BitVec.ofNat 32 (i 0).val)).toNat]

theorem head_toNat : ∀ h : Fin 6,
    (Scalar.indexCast (Scalar.addi (Scalar.muli (BitVec.ofNat 32 h.val) 1#32) 0#32)).toNat = h.val := by decide +kernel

theorem batch_toNat : ∀ b : Fin 32, (Scalar.indexCast (BitVec.ofNat 32 b.val)).toNat = b.val := by decide +kernel

theorem scaleOff_eq (i : grid0.Coords) (n : Fin 16) : scaleOff i n = ![(i 1).val, n.val, (i 0).val] := by
  unfold scaleOff
  rw [head_toNat (i 1), batch_toNat (i 0)]

theorem scaleOff_inb (i : grid0.Coords) (n : Fin 16) : ∀ a, scaleOff i n a + S1x1x1.size a ≤ S6x16x32.size a := by
  rw [scaleOff_eq]
  exact fun a => match a with
    | ⟨0, _⟩ => (i 1).isLt
    | ⟨1, _⟩ => n.isLt
    | ⟨2, _⟩ => (i 0).isLt

/-- The scale of chunk `n`. -/
def scaleAt (i : grid0.Coords) (arg : Memref sig .tc .smem S6x16x32 .f32) (harg : arg.IsWhole) (x : Vec F S6x16x32 .f32)
    (n : ℕ) : F .f32 :=
  View.readAt (Elt F) arg.view (Rect.unit (s := S6x16x32) (scaleOff i (Fin.ofNat 16 n)) S1x1x1.size (scaleOff_inb i _)).toLoadRect
    (harg.unread x) (Shape.Idx.first (numel1_S1x1x1.symm ▸ Nat.one_pos))

/-- The scales of the rows of `dO`. -/
def dosRow (i : grid0.Coords) (arg : Memref sig .tc .vmem S6x32x1024 .f32) (harg : arg.IsWhole)
    (x : Vec F S6x32x1024 .f32) : FVec F S1x1024 .f32 :=
  shapeCast S1x1024 (View.readAt (Elt F) arg.view (Rect.unit (s := S6x32x1024) (k0_off1 i) S1x1x1024.size (k0_off1_inb i)).toLoadRect
    (harg.unread x)) shapeCasts_S1x1x1024_S1x1024

theorem slices_row (n o : ℕ) (h : o + n ≤ 1024) : S1x1024.Slices ![0, o] ⟨2, ![1, n]⟩ :=
  ⟨rfl, fun a => match a with | ⟨0, _⟩ => Nat.le_refl 1 | ⟨1, _⟩ => h⟩

theorem rows_inb (n d o : ℕ) (h : o + n ≤ 1024) :
    ∀ a, (![0, 0, o, 0] : Fin 4 → ℕ) a + (![1, 1, n, d] : Fin 4 → ℕ) a ≤ (⟨4, ![1, 1, 1024, d]⟩ : Shape).size a :=
  fun a => match a with
    | ⟨0, _⟩ => Nat.le_refl 1
    | ⟨1, _⟩ => Nat.le_refl 1
    | ⟨2, _⟩ => h
    | ⟨3, _⟩ => (Nat.zero_add d).le

/-- The `n` rows from row `o` on of an operand. -/
def rowsAt {d : ℕ} {e : EltTy} (n : ℕ) (arg : Memref sig .tc .vmem ⟨4, ![1, 1, 1024, d]⟩ e) (harg : arg.IsWhole)
    (x : Vec F ⟨4, ![1, 1, 1024, d]⟩ e) (o : ℕ) (h : o + n ≤ 1024) : Vec F ⟨4, ![1, 1, n, d]⟩ e :=
  View.readAt (Elt F) arg.view
    (Rect.unit (s := ⟨4, ![1, 1, 1024, d]⟩) ![0, 0, o, 0] ![1, 1, n, d] (rows_inb n d o h)).toLoadRect (harg.unread x)

/-- Where block `c` begins. -/
abbrev blockOff (c : ℕ) : ℕ := 256 * (Fin.ofNat 4 c).val

/-- Where half `g` begins. -/
abbrev halfOff (g : ℕ) : ℕ := 128 * (Fin.ofNat 8 g).val

theorem blockOff_le (c : ℕ) : blockOff c + 256 ≤ 1024 := by have := (Fin.ofNat 4 c).isLt; unfold blockOff; omega

theorem halfOff_le (g : ℕ) : halfOff g + 128 ≤ 1024 := by have := (Fin.ofNat 8 g).isLt; unfold halfOff; omega

/-- What the body reads at a grid point, with the scratch arrays' contents `qt` and `dm`. -/
def reads (i : grid0.Coords) (arg2 : Memref sig .tc .smem S6x16x32 .f32) (harg2 : arg2.IsWhole)
    (arg3 : Memref sig .tc .smem S6x16x32 .f32) (harg3 : arg3.IsWhole)
    (arg4 : Memref sig .tc .smem S6x16x32 .f32) (harg4 : arg4.IsWhole)
    (arg5 : Memref sig .tc .vmem S1x1x1024x128 .fp8e4m3) (harg5 : arg5.IsWhole)
    (arg6 : Memref sig .tc .vmem S1x1x1024x128 .fp8e4m3) (harg6 : arg6.IsWhole)
    (arg7 : Memref sig .tc .vmem S1x1x1024x256 .fp8e4m3) (harg7 : arg7.IsWhole)
    (arg8 : Memref sig .tc .vmem S1x1x1024x256 .fp8e5m2) (harg8 : arg8.IsWhole)
    (arg9 : Memref sig .tc .vmem S6x32x1024 .f32) (harg9 : arg9.IsWhole)
    (x0 : Vec F S6x16x32 .f32) (x1 : Vec F S6x16x32 .f32) (x2 : Vec F S6x16x32 .f32) (x3 : Vec F S1x1x1024x128 .fp8e4m3)
    (x4 : Vec F S1x1x1024x128 .fp8e4m3) (x5 : Vec F S1x1x1024x256 .fp8e4m3) (x6 : Vec F S1x1x1024x256 .fp8e5m2)
    (x7 : Vec F S6x32x1024 .f32)
    (qt : ℕ → FVec F S1x128x256 .bf16) (dm : ℕ → FVec F S1x256x256 .bf16) : Reads F where
  qs := scaleAt i arg2 harg2 x0
  ks := scaleAt i arg3 harg3 x1
  vs := scaleAt i arg4 harg4 x2
  dosB c := extractStridedSlice S1x256 ![0, blockOff c] (dosRow i arg9 harg9 x7) (slices_row 256 _ (blockOff_le c))
  dosH g := extractStridedSlice S1x128 ![0, halfOff g] (dosRow i arg9 harg9 x7) (slices_row 128 _ (halfOff_le g))
  q c := rowsAt 256 arg5 harg5 x3 (blockOff c) (blockOff_le c)
  k c := rowsAt 256 arg6 harg6 x4 (blockOff c) (blockOff_le c)
  v c := rowsAt 256 arg7 harg7 x5 (blockOff c) (blockOff_le c)
  dO c := rowsAt 256 arg8 harg8 x6 (blockOff c) (blockOff_le c)
  qH g := rowsAt 128 arg5 harg5 x3 (halfOff g) (halfOff_le g)
  kH g := rowsAt 128 arg6 harg6 x4 (halfOff g) (halfOff_le g)
  dOH g := rowsAt 128 arg8 harg8 x6 (halfOff g) (halfOff_le g)
  qt := qt
  dm := dm

/-- The scaled rows of `q` as stored in their scratch array, last block first. -/
def qtPieces (ρ : Reads F) : List (View.Piece (Elt F) S1x4x128x256 .bf16) :=
  [⟨Rect.unit ![0, 3, 0, 0] S1x1x128x256.size inb_S1x4x128x256_S1x1x128x256_0_3_0_0, shapeCast S1x1x128x256 (shapeCast S1x128x256 (qT ρ 3) shapeCasts_S128x256_S1x128x256) shapeCasts_S1x128x256_S1x1x128x256⟩,
   ⟨Rect.unit ![0, 2, 0, 0] S1x1x128x256.size inb_S1x4x128x256_S1x1x128x256_0_2_0_0, shapeCast S1x1x128x256 (shapeCast S1x128x256 (qT ρ 2) shapeCasts_S128x256_S1x128x256) shapeCasts_S1x128x256_S1x1x128x256⟩,
   ⟨Rect.unit ![0, 1, 0, 0] S1x1x128x256.size inb_S1x4x128x256_S1x1x128x256_0_1_0_0, shapeCast S1x1x128x256 (shapeCast S1x128x256 (qT ρ 1) shapeCasts_S128x256_S1x128x256) shapeCasts_S1x128x256_S1x1x128x256⟩,
   ⟨Rect.unit ![0, 0, 0, 0] S1x1x128x256.size inb_S1x4x128x256_S1x1x128x256_0_0_0_0, shapeCast S1x1x128x256 (shapeCast S1x128x256 (qT ρ 0) shapeCasts_S128x256_S1x128x256) shapeCasts_S1x128x256_S1x1x128x256⟩]

/-- The masked inner products as stored in their scratch array, last block first. -/
def dmPieces (ρ : Reads F) : List (View.Piece (Elt F) S1x4x256x256 .bf16) :=
  [⟨Rect.unit ![0, 3, 0, 0] S1x1x256x256.size inb_S1x4x256x256_S1x1x256x256_0_3_0_0, shapeCast S1x1x256x256 (shapeCast S1x256x256 (masked ρ 3) shapeCasts_S256x256_S1x256x256) shapeCasts_S1x256x256_S1x1x256x256⟩,
   ⟨Rect.unit ![0, 2, 0, 0] S1x1x256x256.size inb_S1x4x256x256_S1x1x256x256_0_2_0_0, shapeCast S1x1x256x256 (shapeCast S1x256x256 (masked ρ 2) shapeCasts_S256x256_S1x256x256) shapeCasts_S1x256x256_S1x1x256x256⟩,
   ⟨Rect.unit ![0, 1, 0, 0] S1x1x256x256.size inb_S1x4x256x256_S1x1x256x256_0_1_0_0, shapeCast S1x1x256x256 (shapeCast S1x256x256 (masked ρ 1) shapeCasts_S256x256_S1x256x256) shapeCasts_S1x256x256_S1x1x256x256⟩,
   ⟨Rect.unit ![0, 0, 0, 0] S1x1x256x256.size inb_S1x4x256x256_S1x1x256x256_0_0_0_0, shapeCast S1x1x256x256 (shapeCast S1x256x256 (masked ρ 0) shapeCasts_S256x256_S1x256x256) shapeCasts_S1x256x256_S1x1x256x256⟩]

/-- The blocks of the gradient of `q`, last first. -/
def dqPieces (ρ : Reads F) : List (View.Piece (Elt F) S1x1x1024x128 .bf16) :=
  [⟨Rect.unit ![0, 0, 768, 0] S1x1x256x128.size inb_S1x1x1024x128_S1x1x256x128_0_0_768_0, dqBlock ρ 2⟩,
   ⟨Rect.unit ![0, 0, 512, 0] S1x1x256x128.size inb_S1x1x1024x128_S1x1x256x128_0_0_512_0, dqBlock ρ 1⟩,
   ⟨Rect.unit ![0, 0, 256, 0] S1x1x256x128.size inb_S1x1x1024x128_S1x1x256x128_0_0_256_0, dqBlock ρ 0⟩,
   ⟨Rect.unit ![0, 0, 0, 0] S1x1x256x128.size inb_S1x1x1024x128_S1x1x256x128_0_0_0_0, dqFirst ρ⟩]

/-- The blocks of the gradient of `k`, last written first. -/
def dkPieces (ρ : Reads F) : List (View.Piece (Elt F) S1x1x1024x128 .bf16) :=
  [⟨Rect.unit ![0, 0, 0, 0] S1x1x256x128.size inb_S1x1x1024x128_S1x1x256x128_0_0_0_0, dkBlock ρ 0 5⟩,
   ⟨Rect.unit ![0, 0, 256, 0] S1x1x256x128.size inb_S1x1x1024x128_S1x1x256x128_0_0_256_0, dkBlock ρ 1 3⟩,
   ⟨Rect.unit ![0, 0, 512, 0] S1x1x256x128.size inb_S1x1x1024x128_S1x1x256x128_0_0_512_0, dkBlock ρ 2 1⟩,
   ⟨Rect.unit ![0, 0, 768, 0] S1x1x256x128.size inb_S1x1x1024x128_S1x1x256x128_0_0_768_0, dkLast ρ⟩]

/-- The chunks of the gradient of `v`, last written first. -/
def dvPieces (ρ : Reads F) : List (View.Piece (Elt F) S1x1x1024x256 .bf16) :=
  [⟨Rect.unit ![0, 0, 64, 0] S1x1x64x256.size inb_S1x1x1024x256_S1x1x64x256_0_0_64_0, outBottom (dvAcc ρ 0 6) (ρ.ks 1)⟩,
   ⟨Rect.unit ![0, 0, 0, 0] S1x1x64x256.size inb_S1x1x1024x256_S1x1x64x256_0_0_0_0, outTop (dvAcc ρ 0 6) (ρ.ks 0)⟩,
   ⟨Rect.unit ![0, 0, 192, 0] S1x1x64x256.size inb_S1x1x1024x256_S1x1x64x256_0_0_192_0, outBottom (dvAcc ρ 1 5) (ρ.ks 3)⟩,
   ⟨Rect.unit ![0, 0, 128, 0] S1x1x64x256.size inb_S1x1x1024x256_S1x1x64x256_0_0_128_0, outTop (dvAcc ρ 1 5) (ρ.ks 2)⟩,
   ⟨Rect.unit ![0, 0, 320, 0] S1x1x64x256.size inb_S1x1x1024x256_S1x1x64x256_0_0_320_0, outBottom (dvAcc ρ 2 4) (ρ.ks 5)⟩,
   ⟨Rect.unit ![0, 0, 256, 0] S1x1x64x256.size inb_S1x1x1024x256_S1x1x64x256_0_0_256_0, outTop (dvAcc ρ 2 4) (ρ.ks 4)⟩,
   ⟨Rect.unit ![0, 0, 448, 0] S1x1x64x256.size inb_S1x1x1024x256_S1x1x64x256_0_0_448_0, outBottom (dvAcc ρ 3 3) (ρ.ks 7)⟩,
   ⟨Rect.unit ![0, 0, 384, 0] S1x1x64x256.size inb_S1x1x1024x256_S1x1x64x256_0_0_384_0, outTop (dvAcc ρ 3 3) (ρ.ks 6)⟩,
   ⟨Rect.unit ![0, 0, 576, 0] S1x1x64x256.size inb_S1x1x1024x256_S1x1x64x256_0_0_576_0, outBottom (dvAcc ρ 4 2) (ρ.ks 9)⟩,
   ⟨Rect.unit ![0, 0, 512, 0] S1x1x64x256.size inb_S1x1x1024x256_S1x1x64x256_0_0_512_0, outTop (dvAcc ρ 4 2) (ρ.ks 8)⟩,
   ⟨Rect.unit ![0, 0, 704, 0] S1x1x64x256.size inb_S1x1x1024x256_S1x1x64x256_0_0_704_0, outBottom (dvAcc ρ 5 1) (ρ.ks 11)⟩,
   ⟨Rect.unit ![0, 0, 640, 0] S1x1x64x256.size inb_S1x1x1024x256_S1x1x64x256_0_0_640_0, outTop (dvAcc ρ 5 1) (ρ.ks 10)⟩,
   ⟨Rect.unit ![0, 0, 832, 0] S1x1x64x256.size inb_S1x1x1024x256_S1x1x64x256_0_0_832_0, outBottom (dvAcc ρ 6 0) (ρ.ks 13)⟩,
   ⟨Rect.unit ![0, 0, 768, 0] S1x1x64x256.size inb_S1x1x1024x256_S1x1x64x256_0_0_768_0, outTop (dvAcc ρ 6 0) (ρ.ks 12)⟩,
   ⟨Rect.unit ![0, 0, 960, 0] S1x1x64x256.size inb_S1x1x1024x256_S1x1x64x256_0_0_960_0, outBottom (dvNear ρ 7) (ρ.ks 15)⟩,
   ⟨Rect.unit ![0, 0, 896, 0] S1x1x64x256.size inb_S1x1x1024x256_S1x1x64x256_0_0_896_0, outTop (dvNear ρ 7) (ρ.ks 14)⟩]

end Cert.KernelIdeal

end
end
-- ==== Proof.Bridge.lean ====
/- What the frame certificate's run of the body leaves in each window, in the terms of the program the body is. -/
module

public import proofs.«01_k».proof.Proof.Leaves
import all proofs.«01_k».proof.Proof.Gen.KernelIdeal.Frame.RunA
public import proofs.«01_k».proof.Proof.Gen.KernelIdeal.Frame

@[expose] public section

set_option synthInstance.maxSize 4096
set_option maxRecDepth 16384
set_option maxHeartbeats 0

noncomputable section

namespace Cert.KernelIdeal

open Idealize.ShloMosaic Idealize.SL.Sem Gen

variable {F : FTy → Type} [FloatOps F]

variable (c : Dev nD) (i : grid0.Coords) (arg2 : Memref sig .tc .smem S6x16x32 .f32) (harg2 : arg2.IsWhole)
    (arg3 : Memref sig .tc .smem S6x16x32 .f32) (harg3 : arg3.IsWhole)
    (arg4 : Memref sig .tc .smem S6x16x32 .f32) (harg4 : arg4.IsWhole)
    (arg5 : Memref sig .tc .vmem S1x1x1024x128 .fp8e4m3) (harg5 : arg5.IsWhole)
    (arg6 : Memref sig .tc .vmem S1x1x1024x128 .fp8e4m3) (harg6 : arg6.IsWhole)
    (arg7 : Memref sig .tc .vmem S1x1x1024x256 .fp8e4m3) (harg7 : arg7.IsWhole)
    (arg8 : Memref sig .tc .vmem S1x1x1024x256 .fp8e5m2) (harg8 : arg8.IsWhole)
    (arg9 : Memref sig .tc .vmem S6x32x1024 .f32) (harg9 : arg9.IsWhole)
    (arg10 : Memref sig .tc .vmem S1x1x1024x128 .bf16) (harg10 : arg10.IsWhole)
    (arg11 : Memref sig .tc .vmem S1x1x1024x128 .bf16) (harg11 : arg11.IsWhole)
    (arg12 : Memref sig .tc .vmem S1x1x1024x256 .bf16) (harg12 : arg12.IsWhole)
    (arg13 : Memref sig .tc .vmem S1x4x256x256 .bf16) (harg13 : arg13.IsWhole)
    (arg14 : Memref sig .tc .vmem S1x4x128x256 .bf16) (harg14 : arg14.IsWhole)
    (x0 : Vec F S6x16x32 .f32) (x1 : Vec F S6x16x32 .f32) (x2 : Vec F S6x16x32 .f32) (x3 : Vec F S1x1x1024x128 .fp8e4m3)
    (x4 : Vec F S1x1x1024x128 .fp8e4m3) (x5 : Vec F S1x1x1024x256 .fp8e4m3) (x6 : Vec F S1x1x1024x256 .fp8e5m2)
    (x7 : Vec F S6x32x1024 .f32)

/-- The reads before anything is read back from scratch. -/
abbrev reads₀ : Reads F := reads i arg2 harg2 arg3 harg3 arg4 harg4 arg5 harg5 arg6 harg6 arg7 harg7 arg8 harg8 arg9 harg9 x0 x1 x2 x3 x4 x5 x6 x7
  (fun _ _ => Scalar.ofBits .bf16 0x0000#16) (fun _ _ => Scalar.ofBits .bf16 0x0000#16)

/-- The scaled rows of `q` read back. -/
def qtBack : ℕ → FVec F S1x128x256 .bf16
  | 0 => shapeCast S1x128x256 (s := S1x1x128x256) (kernelRun0_A.sl.v1147 c i arg2 harg2 arg5 harg5 arg9 harg9 arg14 x0 x3 x7) (by decide)
  | 1 => shapeCast S1x128x256 (s := S1x1x128x256) (kernelRun0_A.sl.v968 c i arg2 harg2 arg5 harg5 arg9 harg9 arg14 x0 x3 x7) (by decide)
  | 2 => shapeCast S1x128x256 (s := S1x1x128x256) (kernelRun0_A.sl.v789 c i arg2 harg2 arg5 harg5 arg9 harg9 arg14 x0 x3 x7) (by decide)
  | _ => shapeCast S1x128x256 (s := S1x1x128x256) (kernelRun0_A.sl.v619 c i arg2 harg2 arg5 harg5 arg9 harg9 arg14 x0 x3 x7) (by decide)

/-- The masked inner products read back. -/
def dmBack : ℕ → FVec F S1x256x256 .bf16
  | 0 => shapeCast S1x256x256 (s := S1x1x256x256) (kernelRun0_A.sl.v1151 c arg7 harg7 arg8 harg8 arg13 x5 x6) (by decide)
  | 1 => shapeCast S1x256x256 (s := S1x1x256x256) (kernelRun0_A.sl.v972 c arg7 harg7 arg8 harg8 arg13 x5 x6) (by decide)
  | 2 => shapeCast S1x256x256 (s := S1x1x256x256) (kernelRun0_A.sl.v793 c arg7 harg7 arg8 harg8 arg13 x5 x6) (by decide)
  | _ => shapeCast S1x256x256 (s := S1x1x256x256) (kernelRun0_A.sl.v623 c arg7 harg7 arg8 harg8 arg13 x5 x6) (by decide)

/-- All the body reads. -/
abbrev allReads : Reads F := reads i arg2 harg2 arg3 harg3 arg4 harg4 arg5 harg5 arg6 harg6 arg7 harg7 arg8 harg8 arg9 harg9 x0 x1 x2 x3 x4 x5 x6 x7
  (qtBack c i arg2 harg2 arg5 harg5 arg9 harg9 arg14 x0 x3 x7) (dmBack c arg7 harg7 arg8 harg8 arg13 x5 x6)

theorem qtStored : kernelRun0_A.sl.HS1_4 c i arg2 harg2 arg5 harg5 arg9 harg9 x0 x3 x7 = qtPieces (reads₀ i arg2 harg2 arg3 harg3 arg4 harg4 arg5 harg5 arg6 harg6 arg7 harg7 arg8 harg8 arg9 harg9 x0 x1 x2 x3 x4 x5 x6 x7) := rfl

theorem dmStored : kernelRun0_A.sl.HS0_4 c arg7 harg7 arg8 harg8 x5 x6 = dmPieces (reads₀ i arg2 harg2 arg3 harg3 arg4 harg4 arg5 harg5 arg6 harg6 arg7 harg7 arg8 harg8 arg9 harg9 x0 x1 x2 x3 x4 x5 x6 x7) := rfl

/-- The gradient of `q`, as the body leaves it. -/
theorem dq_pieces : (kernelRun0_A c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).1 = dqPieces (reads₀ i arg2 harg2 arg3 harg3 arg4 harg4 arg5 harg5 arg6 harg6 arg7 harg7 arg8 harg8 arg9 harg9 x0 x1 x2 x3 x4 x5 x6 x7) := by
  rfl

/-- The gradient of `k`, as the body leaves it. -/
theorem dk_pieces : (kernelRun0_A c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).2.1 = dkPieces (allReads c i arg2 harg2 arg3 harg3 arg4 harg4 arg5 harg5 arg6 harg6 arg7 harg7 arg8 harg8 arg9 harg9 arg13 arg14 x0 x1 x2 x3 x4 x5 x6 x7) := by
  rfl

/-- The gradient of `v`, as the body leaves it. -/
theorem dv_pieces : (kernelRun0_A c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).2.2.1 = dvPieces (allReads c i arg2 harg2 arg3 harg3 arg4 harg4 arg5 harg5 arg6 harg6 arg7 harg7 arg8 harg8 arg9 harg9 arg13 arg14 x0 x1 x2 x3 x4 x5 x6 x7) := by
  rfl

end Cert.KernelIdeal
end
end
-- ==== Proof.Rows.lean ====
/- Two-axis arrays whose every element is a given real number, and what the array operations do to them: the extended
   reals a program computes on are followed by real numbers indexed by two natural numbers. -/
module

public import Idealize.ShloMosaic.PureOps.Ideal.Laws
public import Idealize.ShloMosaic.Lib.ValueIdx
public import Idealize.ShloMosaic.Lib.MatmulPlain
public import Idealize.ShloMosaic.Lib.ValueLayout
public import Idealize.ShloMosaic.Lib.Pipeline.Value
public import Mathlib.Algebra.BigOperators.Fin

@[expose] public section

namespace LinAttn

open Idealize.ShloMosaic Idealize.ShloMosaic.ValueIdx Finset

/-- The elements of the two-axis array `v` are the real numbers `f i j`. -/
def R2 {m n : ℕ} (v : (⟨2, ![m, n]⟩ : Shape).Idx → EReal) (f : ℕ → ℕ → ℝ) : Prop :=
  ∀ (i : Fin m) (j : Fin n), v (ix2 i j) = ((f i.val j.val : ℝ) : EReal)

/-- The elements of an array with one leading unit axis are the real numbers `f i j`. -/
def R3 {m n : ℕ} (v : (⟨3, ![1, m, n]⟩ : Shape).Idx → EReal) (f : ℕ → ℕ → ℝ) : Prop :=
  ∀ (i : Fin m) (j : Fin n), v (ix3 0 i j) = ((f i.val j.val : ℝ) : EReal)

/-- The elements of an array with two leading unit axes are the real numbers `f i j`. -/
def R4 {m n : ℕ} (v : (⟨4, ![1, 1, m, n]⟩ : Shape).Idx → EReal) (f : ℕ → ℕ → ℝ) : Prop :=
  ∀ (i : Fin m) (j : Fin n), v (ix4 0 0 i j) = ((f i.val j.val : ℝ) : EReal)

/-- A finite sum of real numbers is the same sum of extended reals. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [sum_insert ha, sum_insert ha, EReal.coe_add, ih]

/-- A sum of products of real elements over `K` positions. -/
theorem sum_mul_coe {K : ℕ} (a b : Fin K → EReal) (f g : ℕ → ℝ) (ha : ∀ k, a k = ((f k.val : ℝ) : EReal))
    (hb : ∀ k, b k = ((g k.val : ℝ) : EReal)) :
    ∑ k : Fin K, a k * b k = ((∑ k ∈ range K, f k * g k : ℝ) : EReal) := by
  rw [sum_range, coe_sum]
  exact sum_congr rfl fun k _ => by rw [ha k, hb k, EReal.coe_mul]

section Ops

variable {m n : ℕ} {φ ψ : FTy}

theorem R2.congr {v : (⟨2, ![m, n]⟩ : Shape).Idx → EReal} {f g : ℕ → ℕ → ℝ} (h : R2 v f)
    (e : ∀ i j, i < m → j < n → f i j = g i j) : R2 v g := fun i j => by rw [h i j, e i j i.isLt j.isLt]

theorem R2.mulf {a b : FVec Ideal ⟨2, ![m, n]⟩ φ} {f g : ℕ → ℕ → ℝ} (ha : R2 a f) (hb : R2 b g) :
    R2 (mulf a b) (fun i j => f i j * g i j) := fun i j => by
  rw [mulf_apply, ha i j, hb i j, EReal.coe_mul]

theorem R2.addf {a b : FVec Ideal ⟨2, ![m, n]⟩ φ} {f g : ℕ → ℕ → ℝ} (ha : R2 a f) (hb : R2 b g) :
    R2 (addf a b) (fun i j => f i j + g i j) := fun i j => by
  rw [addf_apply, ha i j, hb i j, EReal.coe_add]

theorem R2.truncf {a : FVec Ideal ⟨2, ![m, n]⟩ φ} {f : ℕ → ℕ → ℝ} (ha : R2 a f) (h : ψ.bits < φ.bits) :
    R2 (truncf ψ a h : FVec Ideal ⟨2, ![m, n]⟩ ψ) f := fun i j => ha i j

theorem R2.extf {a : FVec Ideal ⟨2, ![m, n]⟩ φ} {f : ℕ → ℕ → ℝ} (ha : R2 a f) (h : φ.bits < ψ.bits) :
    R2 (extf ψ a h : FVec Ideal ⟨2, ![m, n]⟩ ψ) f := fun i j => ha i j

theorem R2.broadcast {x : EReal} {r : ℝ} (hx : x = (r : EReal)) :
    R2 (broadcast (⟨2, ![m, n]⟩ : Shape) x) (fun _ _ => r) := fun _ _ => hx

theorem R2.transpose {v : (⟨2, ![m, n]⟩ : Shape).Idx → EReal} {f : ℕ → ℕ → ℝ} (hv : R2 v f)
    (h : (⟨2, ![m, n]⟩ : Shape).Transposes [1, 0] ⟨2, ![n, m]⟩) :
    R2 (transpose ⟨2, ![n, m]⟩ [1, 0] v h) (fun i j => f j i) := fun i j => by
  rw [transpose_apply _ v h (ix2 i j) (ix2 j i) fun c => match c with | ⟨0, _⟩ => rfl | ⟨1, _⟩ => rfl]
  exact hv j i

/-- A row repeated down the first axis. -/
theorem R2.rows {v : (⟨2, ![1, n]⟩ : Shape).Idx → EReal} {f : ℕ → ℕ → ℝ} (hv : R2 v f) (hn : n ≠ 1)
    (h : (⟨2, ![1, n]⟩ : Shape).Broadcasts ⟨2, ![m, n]⟩) :
    R2 (broadcastTo ⟨2, ![m, n]⟩ v h) (fun _ j => f 0 j) := fun i j => by
  rw [broadcastTo_apply v h (ix2 i j) (ix2 0 j) fun c => match c with
    | ⟨0, _⟩ => rfl
    | ⟨1, _⟩ => by
      show j.val = if n = 1 then 0 else _
      rw [if_neg hn]; rfl]
  exact hv 0 j

theorem R2.slice {m' n' a b : ℕ} {v : (⟨2, ![m, n]⟩ : Shape).Idx → EReal} {f : ℕ → ℕ → ℝ} (hv : R2 v f)
    (h : (⟨2, ![m, n]⟩ : Shape).Slices ![a, b] ⟨2, ![m', n']⟩) :
    R2 (extractStridedSlice ⟨2, ![m', n']⟩ ![a, b] v h) (fun i j => f (a + i) (b + j)) := fun i j => by
  have h0 : a + m' ≤ m := h.2 0
  have h1 : b + n' ≤ n := h.2 1
  rw [extractStridedSlice_apply _ v h (ix2 i j) (ix2 ⟨a + i, by omega⟩ ⟨b + j, by omega⟩)
    fun c => match c with | ⟨0, _⟩ => rfl | ⟨1, _⟩ => rfl]
  exact hv _ _

/-- Two arrays side by side. -/
theorem R2.catCols {n₁ n₂ : ℕ} {v₁ : (⟨2, ![m, n₁]⟩ : Shape).Idx → EReal} {v₂ : (⟨2, ![m, n₂]⟩ : Shape).Idx → EReal}
    {f₁ f₂ : ℕ → ℕ → ℝ} (h₁ : R2 v₁ f₁) (h₂ : R2 v₂ f₂)
    (h : Shape.Concatenates [⟨2, ![m, n₁]⟩, ⟨2, ![m, n₂]⟩] (⟨2, ![m, n]⟩ : Shape) 1) :
    R2 (concatenate (⟨2, ![m, n]⟩ : Shape) 1 [⟨⟨2, ![m, n₁]⟩, v₁⟩, ⟨⟨2, ![m, n₂]⟩, v₂⟩] h)
      (fun i j => if j < n₁ then f₁ i j else f₂ i (j - n₁)) := fun i j => by
  have hs : n₁ + n₂ = n := by simpa using h.2.2
  by_cases hj : j.val < n₁
  · rw [concatenate_pair_apply_left 1 v₁ v₂ h (ix2 i j) rfl (ix2 i ⟨j, hj⟩)
      fun c => match c with | ⟨0, _⟩ => rfl | ⟨1, _⟩ => rfl]
    simp only [hj, if_true]
    exact h₁ _ _
  · rw [concatenate_pair_apply_right 1 v₁ v₂ h (ix2 i j) rfl rfl (ix2 i ⟨j.val - n₁, by omega⟩)
      (fun c hc => match c, hc with | ⟨0, _⟩, _ => rfl | ⟨1, _⟩, hc => absurd rfl hc)
      (by show j.val - n₁ + n₁ = j.val; omega)]
    simp only [hj, if_false]
    exact h₂ _ _

/-- Two arrays one above the other. -/
theorem R2.catRows {m₁ m₂ : ℕ} {v₁ : (⟨2, ![m₁, n]⟩ : Shape).Idx → EReal} {v₂ : (⟨2, ![m₂, n]⟩ : Shape).Idx → EReal}
    {f₁ f₂ : ℕ → ℕ → ℝ} (h₁ : R2 v₁ f₁) (h₂ : R2 v₂ f₂)
    (h : Shape.Concatenates [⟨2, ![m₁, n]⟩, ⟨2, ![m₂, n]⟩] (⟨2, ![m, n]⟩ : Shape) 0) :
    R2 (concatenate (⟨2, ![m, n]⟩ : Shape) 0 [⟨⟨2, ![m₁, n]⟩, v₁⟩, ⟨⟨2, ![m₂, n]⟩, v₂⟩] h)
      (fun i j => if i < m₁ then f₁ i j else f₂ (i - m₁) j) := fun i j => by
  have hs : m₁ + m₂ = m := by simpa using h.2.2
  by_cases hi : i.val < m₁
  · rw [concatenate_pair_apply_left 0 v₁ v₂ h (ix2 i j) rfl (ix2 ⟨i, hi⟩ j)
      fun c => match c with | ⟨0, _⟩ => rfl | ⟨1, _⟩ => rfl]
    simp only [hi, if_true]
    exact h₁ _ _
  · rw [concatenate_pair_apply_right 0 v₁ v₂ h (ix2 i j) rfl rfl (ix2 ⟨i.val - m₁, by omega⟩ j)
      (fun c hc => match c, hc with | ⟨0, _⟩, hc => absurd rfl hc | ⟨1, _⟩, _ => rfl)
      (by show i.val - m₁ + m₁ = i.val; omega)]
    simp only [hi, if_false]
    exact h₂ _ _

/-- A choice between two arrays by a mask that holds `P`. -/
theorem R2.select {c : IVec ⟨2, ![m, n]⟩ 1} {a b : (⟨2, ![m, n]⟩ : Shape).Idx → EReal} {f g : ℕ → ℕ → ℝ}
    {P : ℕ → ℕ → Prop} [∀ i j, Decidable (P i j)]
    (hc : ∀ (i : Fin m) (j : Fin n), c (ix2 i j) = if P i.val j.val then 1#1 else 0#1) (ha : R2 a f) (hb : R2 b g) :
    R2 (select c a b) (fun i j => if P i j then f i j else g i j) := fun i j => by
  show (if c (ix2 i j) = 1 then a (ix2 i j) else b (ix2 i j)) = _
  rw [hc i j]
  by_cases h : P i.val j.val
  · simp only [h, if_true]; exact ha i j
  · simp only [h, if_false]; exact hb i j

/-- A matrix product onto a zero accumulator. -/
theorem R2.matmul {M K N : ℕ} {a : FVec Ideal ⟨2, ![M, K]⟩ φ} {b : FVec Ideal ⟨2, ![K, N]⟩ ψ} {f g : ℕ → ℕ → ℝ}
    (ha : R2 a f) (hb : R2 b g) (D : DotDims ⟨2, ![M, K]⟩ ⟨2, ![K, N]⟩ ⟨2, ![M, N]⟩) (hD : D = DotDims.plain M K N)
    (prec : Option ContractPrecision) :
    R2 (FloatOps.matmul D prec a b (constant ⟨2, ![M, N]⟩ .f32 0x00000000#32))
      (fun i j => ∑ k ∈ range K, f i k * g k j) := fun i j => by
  subst hD
  rw [Ideal.matmul_plain_apply, constant_apply, Ideal.ofBits_zero_f32, zero_add]
  exact sum_mul_coe _ _ _ _ (fun k => ha i k) (fun k => hb k j)

/-- A matrix product with the right operand transposed, onto a zero accumulator. -/
theorem R2.matmulT {M K N : ℕ} {a : FVec Ideal ⟨2, ![M, K]⟩ φ} {b : FVec Ideal ⟨2, ![N, K]⟩ ψ} {f g : ℕ → ℕ → ℝ}
    (ha : R2 a f) (hb : R2 b g) (D : DotDims ⟨2, ![M, K]⟩ ⟨2, ![N, K]⟩ ⟨2, ![M, N]⟩)
    (hD : D = DotDims.transposedRhs M K N) (prec : Option ContractPrecision) :
    R2 (FloatOps.matmul D prec a b (constant ⟨2, ![M, N]⟩ .f32 0x00000000#32))
      (fun i j => ∑ k ∈ range K, f i k * g j k) := fun i j => by
  subst hD
  rw [Ideal.matmul_transposedRhs_apply, constant_apply, Ideal.ofBits_zero_f32, zero_add]
  exact sum_mul_coe _ _ _ _ (fun k => ha i k) (fun k => hb j k)

theorem R2.castSelf {v : (⟨2, ![m, n]⟩ : Shape).Idx → EReal} {f : ℕ → ℕ → ℝ} (hv : R2 v f)
    (h : (⟨2, ![m, n]⟩ : Shape).ShapeCasts ⟨2, ![m, n]⟩) : R2 (shapeCast ⟨2, ![m, n]⟩ v h) f := by
  rw [shapeCast_self]; exact hv

theorem R3.drop {v : (⟨3, ![1, m, n]⟩ : Shape).Idx → EReal} {f : ℕ → ℕ → ℝ} (hv : R3 v f)
    (h : (⟨3, ![1, m, n]⟩ : Shape).ShapeCasts ⟨2, ![m, n]⟩) : R2 (shapeCast ⟨2, ![m, n]⟩ v h) f := fun i j => by
  rw [shapeCast_1ab_ab_apply]; exact hv i j

theorem R4.drop {v : (⟨4, ![1, 1, m, n]⟩ : Shape).Idx → EReal} {f : ℕ → ℕ → ℝ} (hv : R4 v f)
    (h : (⟨4, ![1, 1, m, n]⟩ : Shape).ShapeCasts ⟨2, ![m, n]⟩) : R2 (shapeCast ⟨2, ![m, n]⟩ v h) f := fun i j => by
  rw [shapeCast_apply v h (ix2 i j) (ix4 0 0 i j) (by
    rw [Shape.rowMajor_val_four, Shape.rowMajor_val_two]
    show ((0 * 1 + 0) * m + i.val) * n + j.val = i.val * n + j.val
    simp)]
  exact hv i j

theorem R2.add4 {v : (⟨2, ![m, n]⟩ : Shape).Idx → EReal} {f : ℕ → ℕ → ℝ} (hv : R2 v f)
    (h : (⟨2, ![m, n]⟩ : Shape).ShapeCasts ⟨4, ![1, 1, m, n]⟩) : R4 (shapeCast ⟨4, ![1, 1, m, n]⟩ v h) f := fun i j => by
  rw [shapeCast_apply v h (ix4 0 0 i j) (ix2 i j) (by
    rw [Shape.rowMajor_val_four, Shape.rowMajor_val_two]
    show i.val * n + j.val = ((0 * 1 + 0) * m + i.val) * n + j.val
    simp)]
  exact hv i j

theorem R2.add3 {v : (⟨2, ![m, n]⟩ : Shape).Idx → EReal} {f : ℕ → ℕ → ℝ} (hv : R2 v f)
    (h : (⟨2, ![m, n]⟩ : Shape).ShapeCasts ⟨3, ![1, m, n]⟩) : R3 (shapeCast ⟨3, ![1, m, n]⟩ v h) f := fun i j => by
  rw [shapeCast_ab_1ab_apply]; exact hv i j

theorem R3.add4 {v : (⟨3, ![1, m, n]⟩ : Shape).Idx → EReal} {f : ℕ → ℕ → ℝ} (hv : R3 v f)
    (h : (⟨3, ![1, m, n]⟩ : Shape).ShapeCasts ⟨4, ![1, 1, m, n]⟩) :
    R4 (shapeCast ⟨4, ![1, 1, m, n]⟩ v h) f := fun i j => by
  rw [shapeCast_abc_1abc_apply]; exact hv i j

end Ops

end LinAttn
end
-- ==== Proof.Masks.lean ====
/- The masks of the kernel as conditions on the row and column. -/
module

public import proofs.«01_k».proof.Proof.Program
public import proofs.«01_k».proof.Proof.Rows

@[expose] public section

namespace Cert.KernelIdeal

open Idealize.ShloMosaic Idealize.ShloMosaic.ValueIdx Gen

/-- A small word as an integer. -/
theorem toInt_small (n : ℕ) (h : n ≤ 128) : (BitVec.ofNat 32 n).toInt = n := by
  rw [BitVec.toInt_ofNat', Int.bmod_eq_of_le] <;> omega

/-- A signed comparison of two small words. -/
theorem cmpi_sle (a b : ℕ) (ha : a ≤ 128) (hb : b ≤ 128) :
    IntOp.cmpi .sle (BitVec.ofNat 32 a) (BitVec.ofNat 32 b) = if a ≤ b then 1#1 else 0#1 := by
  unfold IntOp.cmpi BitVec.sle
  simp only [toInt_small a ha, toInt_small b hb]
  by_cases h : a ≤ b
  · simp [h]
  · simp [h]

/-- The same comparison the other way round. -/
theorem cmpi_sge (a b : ℕ) (ha : a ≤ 128) (hb : b ≤ 128) :
    IntOp.cmpi .sge (BitVec.ofNat 32 a) (BitVec.ofNat 32 b) = if b ≤ a then 1#1 else 0#1 :=
  cmpi_sle b a hb ha

/-- A strict signed comparison of two small words. -/
theorem cmpi_slt (a b : ℕ) (ha : a ≤ 128) (hb : b ≤ 128) :
    IntOp.cmpi .slt (BitVec.ofNat 32 a) (BitVec.ofNat 32 b) = if a < b then 1#1 else 0#1 := by
  unfold IntOp.cmpi BitVec.slt
  simp only [toInt_small a ha, toInt_small b hb]
  by_cases h : a < b
  · simp [h]
  · simp [h]

/-- Equality of two small words. -/
theorem cmpi_eq (a b : ℕ) (ha : a ≤ 128) (hb : b ≤ 128) :
    IntOp.cmpi .eq (BitVec.ofNat 32 a) (BitVec.ofNat 32 b) = if a = b then 1#1 else 0#1 := by
  have : BitVec.ofNat 32 a = BitVec.ofNat 32 b ↔ a = b :=
    ⟨fun h => by have := congrArg BitVec.toInt h; rw [toInt_small a ha, toInt_small b hb] at this; omega, fun h => h ▸ rfl⟩
  unfold IntOp.cmpi
  by_cases h : a = b
  · simp [h]
  · have e : (BitVec.ofNat 32 a == BitVec.ofNat 32 b) = false := beq_eq_false_iff_ne.mpr (mt this.mp h)
    simp only [e, h, if_false]
    rfl

theorem row_apply (i j : Fin 128) : iota .tc S128x128 32 [0] iota_S128x128_d0_w32 (ix2 i j) = BitVec.ofNat 32 i.val :=
  iota_single_apply _ _ _ _ _ _

theorem col_apply (i j : Fin 128) : iota .tc S128x128 32 [1] iota_S128x128_d1_w32 (ix2 i j) = BitVec.ofNat 32 j.val :=
  iota_single_apply _ _ _ _ _ _

/-- `lower` holds where the column is at most the row. -/
theorem lower_apply (i j : Fin 128) : lower (ix2 i j) = if j.val ≤ i.val then 1#1 else 0#1 := by
  show IntOp.cmpi .sge (iota .tc S128x128 32 [0] _ (ix2 i j)) (iota .tc S128x128 32 [1] _ (ix2 i j)) = _
  rw [row_apply, col_apply, cmpi_sge _ _ (by omega) (by omega)]

/-- `upper` holds where the row is at most the column. -/
theorem upper_apply (i j : Fin 128) : upper (ix2 i j) = if i.val ≤ j.val then 1#1 else 0#1 := by
  show IntOp.cmpi .sle (iota .tc S128x128 32 [0] _ (ix2 i j)) (iota .tc S128x128 32 [1] _ (ix2 i j)) = _
  rw [row_apply, col_apply, cmpi_sle _ _ (by omega) (by omega)]

/-- The chunk a column lies in. -/
noncomputable def colChunk : IVec S128x128 32 :=
  have v3 : IVec S128x128 32 := iota .tc S128x128 32 [1] iota_S128x128_d1_w32
  select (andi (cmpi .ne k0_pay6 (broadcast S128x128 1#32))
    (cmpi .ne (remsi v3 (broadcast S128x128 64#32)) (broadcast S128x128 0#32)))
    (subi k0_pay5 (broadcast S128x128 1#32)) k0_pay5

theorem rowChunk_apply (i j : Fin 128) : k0_pay4 (ix2 i j) = BitVec.ofNat 32 (i.val / 64) := by
  have h : ∀ i : Fin 128, k0_pay4 (ix2 i 0) = BitVec.ofNat 32 (i.val / 64) := by decide +kernel
  exact h i

theorem colChunk_apply (i j : Fin 128) : colChunk (ix2 i j) = BitVec.ofNat 32 (j.val / 64) := by
  have h : ∀ j : Fin 128, colChunk (ix2 0 j) = BitVec.ofNat 32 (j.val / 64) := by decide +kernel
  exact h j

/-- `sameChunk` holds where row and column lie in one chunk. -/
theorem sameChunk_apply (i j : Fin 128) : sameChunk (ix2 i j) = if i.val / 64 = j.val / 64 then 1#1 else 0#1 := by
  show IntOp.cmpi .eq (k0_pay4 (ix2 i j)) (colChunk (ix2 i j)) = _
  rw [rowChunk_apply, colChunk_apply, cmpi_eq _ _ (by omega) (by omega)]

/-- `upper` and `sameChunk` hold together where the row is at most the column and both lie in one chunk. -/
theorem upper_sameChunk_apply (i j : Fin 128) :
    andi upper sameChunk (ix2 i j) = if i.val ≤ j.val ∧ i.val / 64 = j.val / 64 then 1#1 else 0#1 := by
  show upper (ix2 i j) &&& sameChunk (ix2 i j) = _
  rw [upper_apply, sameChunk_apply]
  by_cases h1 : i.val ≤ j.val <;> by_cases h2 : i.val / 64 = j.val / 64 <;> simp [h1, h2]

/-- The lanes of the first chunk. -/
theorem firstLanes_apply (i : Fin 1) (j : Fin 128) :
    cmpi .slt (iota .tc S1x128 32 [1] iota_S1x128_d1_w32) (broadcast S1x128 64#32) (ix2 i j)
      = if j.val < 64 then 1#1 else 0#1 := by
  show IntOp.cmpi .slt (iota .tc S1x128 32 [1] _ (ix2 i j)) (BitVec.ofNat 32 64) = _
  rw [show iota .tc S1x128 32 [1] iota_S1x128_d1_w32 (ix2 i j) = BitVec.ofNat 32 j.val from iota_single_apply _ _ _ _ _ _,
    cmpi_slt _ _ (by omega) (by omega)]

/-- The columns of the first chunk, in the first 64 rows. -/
theorem firstCols_apply (i : Fin 64) (j : Fin 128) :
    cmpi .slt (extractStridedSlice S64x128 ![0, 0] (iota .tc S128x128 32 [1] iota_S128x128_d1_w32)
        slices_S128x128_o0_0_S64x128) (broadcast S64x128 64#32) (ix2 i j)
      = if j.val < 64 then 1#1 else 0#1 := by
  have e : extractStridedSlice S64x128 ![0, 0] (iota .tc S128x128 32 [1] iota_S128x128_d1_w32)
      slices_S128x128_o0_0_S64x128 (ix2 i j) = BitVec.ofNat 32 j.val :=
    (extractStridedSlice_apply ![0, 0] (iota .tc S128x128 32 [1] iota_S128x128_d1_w32) slices_S128x128_o0_0_S64x128
      (ix2 i j) (ix2 (⟨i.val, by omega⟩ : Fin 128) j)
      fun c => match c with | ⟨0, _⟩ => (Nat.zero_add _).symm | ⟨1, _⟩ => (Nat.zero_add _).symm).trans (col_apply _ _)
  exact (congrArg (fun x => IntOp.cmpi .slt x (BitVec.ofNat 32 64)) e).trans (cmpi_slt _ _ (by omega) (by omega))

end Cert.KernelIdeal

end
-- ==== Proof.BlockValue.lean ====
/- The blocks one grid point writes, over real data: each block of 256 rows of the gradients of `q` and `k`, and each
   chunk of 64 rows of the gradient of `v`, is the gradient of the data it was read from. -/
module

public import proofs.«01_k».proof.Proof.Masks
public import proofs.«01_k».proof.Proof.Spec

@[expose] public section

set_option synthInstance.maxSize 4096

namespace Cert.KernelIdeal

open Idealize.ShloMosaic Idealize.ShloMosaic.ValueIdx Gen LinAttn Finset

variable (ρ : Reads Ideal) (X : Data)

/-- The values read at a grid point are those of the data `X`. -/
structure Holds : Prop where
  qs : ∀ n < 16, ρ.qs n = ((X.qs n : ℝ) : EReal)
  ks : ∀ n < 16, ρ.ks n = ((X.ks n : ℝ) : EReal)
  vs : ∀ n < 16, ρ.vs n = ((X.vs n : ℝ) : EReal)
  dosB : ∀ c < 4, R2 (ρ.dosB c) (fun _ j => X.dos (256 * c + j))
  dosH : ∀ g < 8, R2 (ρ.dosH g) (fun _ j => X.dos (128 * g + j))
  q : ∀ c < 4, R4 (ρ.q c) (fun r d => X.q (256 * c + r) d)
  k : ∀ c < 4, R4 (ρ.k c) (fun r d => X.k (256 * c + r) d)
  v : ∀ c < 4, R4 (ρ.v c) (fun r e => X.v (256 * c + r) e)
  dO : ∀ c < 4, R4 (ρ.dO c) (fun r e => X.dO (256 * c + r) e)
  qH : ∀ g < 8, R4 (ρ.qH g) (fun r d => X.q (128 * g + r) d)
  kH : ∀ g < 8, R4 (ρ.kH g) (fun r d => X.k (128 * g + r) d)
  dOH : ∀ g < 8, R4 (ρ.dOH g) (fun r e => X.dO (128 * g + r) e)
  c : (outScale : Ideal .f32) = ((X.c : ℝ) : EReal)

/-- The scratch arrays read back hold the scaled rows of `q` and the masked inner products. -/
structure Kept : Prop where
  qt : ∀ c < 4, R3 (ρ.qt c) (fun d j => X.qt (256 * c + j) d)
  dm : ∀ c < 4, R3 (ρ.dm c) (fun r j => X.dm c r j)

theorem zero32_eq : (zero32 : Ideal .f32) = ((0 : ℝ) : EReal) := Ideal.ofBits_zero_f32

theorem zero16_eq : (Scalar.ofBits .bf16 0x0000#16 : Ideal .bf16) = ((0 : ℝ) : EReal) := by
  show Ideal.ofBits .bf16 0x0000#16 = _
  simp [Ideal.ofBits, Ideal.ieee]

/-- Two scales over the lanes of one half. -/
theorem lanes_real {a b : Ideal .f32} {x y : ℝ} (ha : a = (x : EReal)) (hb : b = (y : EReal)) :
    R2 (lanes a b) (fun _ j => if j < 64 then x else y) :=
  R2.select (P := fun _ j => j < 64) firstLanes_apply (R2.broadcast ha) (R2.broadcast hb)

/-- Four scales over the lanes of one block. -/
theorem lanes4_real {s : ℕ → Ideal .f32} {f : ℕ → ℝ} (h : ∀ n < 16, s n = ((f n : ℝ) : EReal)) (c : ℕ) (hc : c < 4) :
    R2 (lanes4 s (4 * c)) (fun _ j => f ((256 * c + j) / 64)) := by
  refine (R2.catCols (lanes_real (h (4 * c) (by omega)) (h (4 * c + 1) (by omega)))
    (lanes_real (h (4 * c + 2) (by omega)) (h (4 * c + 3) (by omega))) _).congr fun i j hi hj => ?_
  split_ifs with h1 h2 h2 <;> congr 1 <;> omega

theorem scaledT_real {x : FVec Ideal S1x1x256x128 .fp8e4m3} {a b : FVec Ideal S1x256 .f32} {f : ℕ → ℕ → ℝ} {g h : ℕ → ℝ}
    (hx : R4 x f) (ha : R2 a fun _ j => g j) (hb : R2 b fun _ j => h j) :
    R2 (scaledT x a b) (fun d j => f j d * (g j * h j)) :=
  (((hx.drop _).extf _).transpose _).mulf ((((ha.mulf hb).castSelf _).rows (by decide) _).truncf _)

theorem corner_real {x : FVec Ideal S128x128 .f32} {f : ℕ → ℕ → ℝ} (hx : R2 x f) :
    R2 (corner x) (fun i j => if j ≤ i then f i j else 0) :=
  (R2.select (P := fun i j => j ≤ i) lower_apply hx (R2.broadcast zero32_eq)).truncf _

variable {ρ X}

theorem kT_real (H : Holds ρ X) (c : ℕ) (hc : c < 4) : R2 (kT ρ c) (fun d j => X.kt (256 * c + j) d) :=
  scaledT_real (H.k c hc) (lanes4_real H.ks c hc) (lanes4_real H.vs c hc)

theorem qT_real (H : Holds ρ X) (c : ℕ) (hc : c < 4) : R2 (qT ρ c) (fun d j => X.qt (256 * c + j) d) :=
  scaledT_real (H.q c hc) (lanes4_real H.qs c hc) (H.dosB c hc)

theorem inner_real (H : Holds ρ X) (c : ℕ) (hc : c < 4) :
    R2 (inner ρ c) (fun r j => X.D (256 * c + r) (256 * c + j)) :=
  R2.matmulT ((H.dO c hc).drop _) ((H.v c hc).drop _) _ rfl _

theorem masked_real (H : Holds ρ X) (c : ℕ) (hc : c < 4) : R2 (masked ρ c) (fun r j => X.dm c r j) := by
  have hi := inner_real H c hc
  refine (R2.catRows
    (R2.catCols (corner_real (hi.slice slices_S256x256_o0_0_S128x128)) (R2.broadcast zero16_eq)
      concatenates_S128x128_S128x128_S128x256_d1)
    (R2.catCols ((hi.slice slices_S256x256_o128_0_S128x128).truncf bitsLt_bf16_f32)
      (corner_real (hi.slice slices_S256x256_o128_128_S128x128)) concatenates_S128x128_S128x128_S128x256_d1)
    concatenates_S128x256_S128x256_S256x256_d0).congr fun r j hr hj => ?_
  unfold Data.dm
  split_ifs <;> first | rfl | omega | (congr 1 <;> omega)

theorem update_real (H : Holds ρ X) (c : ℕ) (hc : c < 4) : R2 (update ρ c) (fun d e => X.u c d e) :=
  R2.matmul (kT_real H c hc) ((H.v c hc).drop _) _ rfl _

theorem stateAfter_real (H : Holds ρ X) : ∀ c < 4, R2 (stateAfter ρ c) (fun d e => X.state (c + 1) d e)
  | 0, hc => (update_real H 0 hc).congr fun d e _ _ => by unfold Data.state; simp
  | c + 1, hc => ((stateAfter_real H c (by omega)).addf (update_real H (c + 1) hc)).congr fun d e _ _ => by
      unfold Data.state
      exact (sum_Ico_succ_top (Nat.zero_le (c + 1)) _).symm

theorem outT_real {acc : FVec Ideal S128x256 .f32} {row : FVec Ideal S1x256 .f32} {f : ℕ → ℕ → ℝ} {g : ℕ → ℝ}
    (H : Holds ρ X) (ha : R2 acc f) (hr : R2 row fun _ j => g j) :
    R4 (outT acc row) (fun r d => f d r * (g r * X.c)) :=
  (((ha.mulf ((hr.mulf (R2.broadcast H.c)).rows (by decide) _)).truncf _).transpose _).add4 _

theorem dqNear_real (H : Holds ρ X) (c : ℕ) (hc : c < 4) :
    R2 (dqNear ρ c) (fun d r => ∑ j ∈ range 256, X.kt (256 * c + j) d * X.dm c r j) :=
  R2.matmulT (kT_real H c hc) (masked_real H c hc) _ rfl _

theorem R4.congr {m n : ℕ} {v : (⟨4, ![1, 1, m, n]⟩ : Shape).Idx → EReal} {f g : ℕ → ℕ → ℝ} (h : R4 v f)
    (e : ∀ i j, i < m → j < n → f i j = g i j) : R4 v g := fun i j => by rw [h i j, e i j i.isLt j.isLt]

/-- The first block of the gradient of `q`. -/
theorem dqFirst_real (H : Holds ρ X) : R4 (dqFirst ρ) (fun r d => X.dq (256 * 0 + r) d) :=
  R4.congr (outT_real H (dqNear_real H 0 (by omega)) (H.dosB 0 (by omega))) fun r d hr _ => by
    rw [X.dq_block 0 r d (by omega) hr]
    unfold Data.state
    simp

/-- A later block of the gradient of `q`. -/
theorem dqBlock_real (H : Holds ρ X) (c : ℕ) (hc : c + 1 < 4) :
    R4 (dqBlock ρ c) (fun r d => X.dq (256 * (c + 1) + r) d) :=
  R4.congr (outT_real H ((dqNear_real H (c + 1) hc).addf
    (R2.matmulT ((stateAfter_real H c (by omega)).truncf _) ((H.dO (c + 1) hc).drop _) _ rfl _)) (H.dosB (c + 1) hc))
    fun r d hr _ => by rw [X.dq_block (c + 1) r d hc hr]

theorem qtB_real (K : Kept ρ X) (c : ℕ) (hc : c < 4) : R2 (qtB ρ c) (fun d j => X.qt (256 * c + j) d) :=
  (K.qt c hc).drop _

theorem gradOdd_real (H : Holds ρ X) (K : Kept ρ X) (c : ℕ) (hc : c < 4) :
    R2 (gradOdd ρ c) (fun d e => X.w (2 * c + 1) d e) :=
  (R2.matmul ((qtB_real K c hc).slice _) ((H.dOH (2 * c + 1) (by omega)).drop _) _ rfl _).congr fun d e _ _ =>
    sum_congr rfl fun j _ => by
      rw [zero_add, show 256 * c + (128 + j) = 128 * (2 * c + 1) + j by ring]

theorem gradEven_real (H : Holds ρ X) (K : Kept ρ X) (c : ℕ) (hc : c < 4) :
    R2 (gradEven ρ c) (fun d e => X.w (2 * c) d e) :=
  (R2.matmul ((qtB_real K c hc).slice _) ((H.dOH (2 * c) (by omega)).drop _) _ rfl _).congr fun d e _ _ =>
    sum_congr rfl fun j _ => by
      rw [zero_add, zero_add, show 256 * c + j = 128 * (2 * c) + j by ring]

theorem gradPart_real (H : Holds ρ X) (K : Kept ρ X) : ∀ n < 7, R2 (gradPart ρ n) (fun d e => X.w (7 - n) d e)
  | 0, _ => gradOdd_real H K 3 (by omega)
  | 1, _ => gradEven_real H K 3 (by omega)
  | 2, _ => gradOdd_real H K 2 (by omega)
  | 3, _ => gradEven_real H K 2 (by omega)
  | 4, _ => gradOdd_real H K 1 (by omega)
  | 5, _ => gradEven_real H K 1 (by omega)
  | 6, _ => gradOdd_real H K 0 (by omega)

theorem gradSum_real (H : Holds ρ X) (K : Kept ρ X) : ∀ n < 7, R2 (gradSum ρ n) (fun d e => X.grad (6 - n) d e)
  | 0, hn => (gradPart_real H K 0 hn).congr fun d e _ _ => by unfold Data.grad; simp
  | n + 1, hn => ((gradSum_real H K n (by omega)).addf (gradPart_real H K (n + 1) hn)).congr fun d e _ _ => by
      unfold Data.grad
      rw [sum_eq_sum_Ico_succ_bot (show 6 - (n + 1) + 1 < 8 by omega), add_comm,
        show 7 - (n + 1) = 6 - (n + 1) + 1 by omega, show 6 - n + 1 = 6 - (n + 1) + 1 + 1 by omega]

theorem dkNear_real (K : Kept ρ X) (c : ℕ) (hc : c < 4) :
    R2 (dkNear ρ c) (fun d r => ∑ j ∈ range 256, X.qt (256 * c + j) d * X.dm c j r) :=
  R2.matmul (qtB_real K c hc) ((K.dm c hc).drop _) _ rfl _

/-- The last block of the gradient of `k`. -/
theorem dkLast_real (H : Holds ρ X) (K : Kept ρ X) : R4 (dkLast ρ) (fun r d => X.dk (256 * 3 + r) d) :=
  R4.congr (outT_real H (dkNear_real K 3 (by omega)) (lanes4_real H.vs 3 (by omega))) fun r d hr _ => by
    rw [X.dk_block 3 r d (by omega) hr]
    unfold Data.grad
    simp

/-- An earlier block of the gradient of `k`. -/
theorem dkBlock_real (H : Holds ρ X) (K : Kept ρ X) (c n : ℕ) (hc : c < 3) (hn : n = 5 - 2 * c) :
    R4 (dkBlock ρ c n) (fun r d => X.dk (256 * c + r) d) :=
  R4.congr (outT_real H ((dkNear_real K c (by omega)).addf
    (R2.matmulT ((gradSum_real H K n (by omega)).truncf _) ((H.v c (by omega)).drop _) _ rfl _))
    (lanes4_real H.vs c (by omega)))
    fun r d hr _ => by
      rw [X.dk_block c r d (by omega) hr, show 6 - n = 2 * c + 1 by omega]

theorem near_real (H : Holds ρ X) (g : ℕ) (hg : g < 8) :
    R2 (near ρ g) (fun r j => if r ≤ j ∧ r / 64 = j / 64 then
      ∑ d ∈ range 128, X.k (128 * g + r) d * X.q (128 * g + j) d else 0) :=
  R2.select (P := fun r j => r ≤ j ∧ r / 64 = j / 64) upper_sameChunk_apply
    (R2.matmulT ((H.kH g hg).drop _) ((H.qH g hg).drop _) _ rfl _) (R2.broadcast zero32_eq)

theorem far_real (H : Holds ρ X) (g : ℕ) (hg : g < 8) :
    R2 (far ρ g) (fun r j => ∑ d ∈ range 128, X.k (128 * g + (0 + r)) (0 + d) * X.q (128 * g + j) d) :=
  R2.matmulT ((((H.kH g hg).drop _).extf _).slice _) ((H.qH g hg).drop _) _ rfl _

theorem scores_real (H : Holds ρ X) (g : ℕ) (hg : g < 8) :
    R2 (scores ρ g) (fun r j => if r ≤ j then
      ∑ d ∈ range 128, X.k (128 * g + r) d * X.q (128 * g + j) d else 0) := by
  have hn := near_real H g hg
  refine (R2.catRows (R2.select (P := fun _ j => j < 64) firstCols_apply
    (hn.slice slices_S128x128_o0_0_S64x128) (far_real H g hg))
    (hn.slice slices_S128x128_o64_0_S64x128) concatenates_S64x128_S64x128_S128x128_d0).congr fun r j hr hj => ?_
  simp only [zero_add]
  by_cases h1 : r < 64
  · by_cases h2 : j < 64
    · have e : (r ≤ j ∧ r / 64 = j / 64) ↔ r ≤ j := by omega
      simp only [h1, h2, if_true, e]
    · simp only [h1, h2, if_true, if_false, show r ≤ j by omega]
  · have e : (64 + (r - 64) ≤ j ∧ (64 + (r - 64)) / 64 = j / 64) ↔ r ≤ j := by omega
    simp only [h1, if_false, e]
    simp only [show 64 + (r - 64) = r by omega]

theorem scaledScores_real (H : Holds ρ X) (g : ℕ) (hg : g < 8) :
    R2 (scaledScores ρ g) (fun r j => X.p g r j) :=
  (((scores_real H g hg).mulf (((lanes_real (H.qs (2 * g) (by omega)) (H.qs (2 * g + 1) (by omega))).mulf
    (H.dosH g hg)).rows (by decide) _)).truncf _).congr fun r j hr hj => by
      unfold Data.p
      congr 2
      split_ifs with h <;> congr 1 <;> omega

theorem dvNear_real (H : Holds ρ X) (g : ℕ) (hg : g < 8) :
    R2 (dvNear ρ g) (fun r e => ∑ j ∈ range 128, X.p g r j * X.dO (128 * g + j) e) :=
  R2.matmul (scaledScores_real H g hg) ((H.dOH g hg).drop _) _ rfl _

theorem dvAcc_real (H : Holds ρ X) (K : Kept ρ X) (g n : ℕ) (hg : g < 7) (hn : n = 6 - g) :
    R2 (dvAcc ρ g n) (fun r e => ∑ j ∈ range 128, X.p g r j * X.dO (128 * g + j) e
      + ∑ d ∈ range 128, X.k (128 * g + r) d * X.grad g d e) :=
  ((dvNear_real H g (by omega)).addf (R2.matmul (((H.kH g (by omega)).drop _).extf _)
    ((gradSum_real H K n (by omega)).truncf _) _ rfl _)).congr fun r e _ _ => by
      rw [show 6 - n = g by omega]

theorem outTop_real (H : Holds ρ X) {acc : FVec Ideal S128x256 .f32} {f : ℕ → ℕ → ℝ} {s : Ideal .f32} {x : ℝ}
    (ha : R2 acc f) (hs : s = (x : EReal)) : R4 (outTop acc s) (fun r e => f r e * (x * X.c)) :=
  R4.congr ((((ha.slice _).mulf (R2.broadcast (r := x * X.c) (by
    rw [hs, H.c]; exact (EReal.coe_mul _ _).symm))).truncf _).add4 _) fun r e _ _ => by
      simp only [zero_add]

theorem outBottom_real (H : Holds ρ X) {acc : FVec Ideal S128x256 .f32} {f : ℕ → ℕ → ℝ} {s : Ideal .f32} {x : ℝ}
    (ha : R2 acc f) (hs : s = (x : EReal)) : R4 (outBottom acc s) (fun r e => f (64 + r) e * (x * X.c)) :=
  R4.congr ((((ha.slice _).mulf (R2.broadcast (r := x * X.c) (by
    rw [hs, H.c]; exact (EReal.coe_mul _ _).symm))).truncf _).add4 _) fun r e _ _ => by
      simp only [zero_add]

/-- The first chunk of a half of the gradient of `v`. -/
theorem dvTop_real (H : Holds ρ X) (K : Kept ρ X) (g n : ℕ) (hg : g < 7) (hn : n = 6 - g) :
    R4 (outTop (dvAcc ρ g n) (ρ.ks (2 * g))) (fun r e => X.dv (64 * (2 * g) + r) e) :=
  R4.congr (outTop_real H (dvAcc_real H K g n hg hn) (H.ks (2 * g) (by omega))) fun r e hr _ => by
    rw [show 64 * (2 * g) + r = 128 * g + r by ring, X.dv_half g r e (by omega) (by omega),
      show (128 * g + r) / 64 = 2 * g by omega]

/-- The second chunk of a half of the gradient of `v`. -/
theorem dvBottom_real (H : Holds ρ X) (K : Kept ρ X) (g n : ℕ) (hg : g < 7) (hn : n = 6 - g) :
    R4 (outBottom (dvAcc ρ g n) (ρ.ks (2 * g + 1))) (fun r e => X.dv (64 * (2 * g + 1) + r) e) :=
  R4.congr (outBottom_real H (dvAcc_real H K g n hg hn) (H.ks (2 * g + 1) (by omega))) fun r e hr _ => by
    rw [show 64 * (2 * g + 1) + r = 128 * g + (64 + r) by ring, X.dv_half g (64 + r) e (by omega) (by omega),
      show (128 * g + (64 + r)) / 64 = 2 * g + 1 by omega]

theorem dvLast_grad (r e : ℕ) : ∑ d ∈ range 128, X.k (128 * 7 + r) d * X.grad 7 d e = 0 := by
  unfold Data.grad; simp

/-- The last chunk but one of the gradient of `v`. -/
theorem dvTopLast_real (H : Holds ρ X) :
    R4 (outTop (dvNear ρ 7) (ρ.ks 14)) (fun r e => X.dv (64 * 14 + r) e) :=
  R4.congr (outTop_real H (dvNear_real H 7 (by omega)) (H.ks 14 (by omega))) fun r e hr _ => by
    rw [show 64 * 14 + r = 128 * 7 + r by ring, X.dv_half 7 r e (by omega) (by omega), dvLast_grad, add_zero,
      show (128 * 7 + r) / 64 = 14 by omega]

/-- The last chunk of the gradient of `v`. -/
theorem dvBottomLast_real (H : Holds ρ X) :
    R4 (outBottom (dvNear ρ 7) (ρ.ks 15)) (fun r e => X.dv (64 * 15 + r) e) :=
  R4.congr (outBottom_real H (dvNear_real H 7 (by omega)) (H.ks 15 (by omega))) fun r e hr _ => by
    rw [show 64 * 15 + r = 128 * 7 + (64 + r) by ring, X.dv_half 7 (64 + r) e (by omega) (by omega), dvLast_grad,
      add_zero, show (128 * 7 + (64 + r)) / 64 = 15 by omega]

end Cert.KernelIdeal

end
-- ==== Proof.Held.lean ====
/- The values the body reads are the real numbers its windows hold. -/
module

public import proofs.«01_k».proof.Proof.Leaves
public import proofs.«01_k».proof.Proof.BlockValue
public import Idealize.ShloMosaic.Lib.Pipeline.ValueKit.Tiles

@[expose] public section

set_option synthInstance.maxSize 4096
set_option maxRecDepth 16384

noncomputable section

namespace Cert.KernelIdeal

open Idealize.ShloMosaic Idealize.ShloMosaic.ValueIdx Gen LinAttn

theorem scaleAt_eq (i : grid0.Coords) (arg : Memref sig .tc .smem S6x16x32 .f32) (harg : arg.IsWhole)
    (x : Vec Ideal S6x16x32 .f32) (n : Fin 16) : scaleAt i arg harg x n.val = x (ix3 (i 1) n (i 0)) := by
  have hn : Fin.ofNat 16 n.val = n := Fin.ext (Nat.mod_eq_of_lt n.isLt)
  unfold scaleAt
  rw [View.readAt_eq_ld, harg.read_unread]
  refine View.ld_unit_apply_of x _ _ _ _ _ fun a => ?_
  refine Eq.trans ?_ (congrArg (· + _) (congrFun (scaleOff_eq i _) a).symm)
  match a with
  | ⟨0, _⟩ => rfl
  | ⟨1, _⟩ => exact (congrArg Fin.val hn).symm
  | ⟨2, _⟩ => rfl

theorem dosRow_eq (i : grid0.Coords) (arg : Memref sig .tc .vmem S6x32x1024 .f32) (harg : arg.IsWhole)
    (x : Vec Ideal S6x32x1024 .f32) (t : Fin 1024) : dosRow i arg harg x (ix2 0 t) = x (ix3 (i 1) (i 0) t) := by
  have hoff : k0_off1 i = ![(i 1).val, (i 0).val, 0] := by
    show (![(Scalar.indexCast (Scalar.addi (Scalar.muli (BitVec.ofNat 32 (i 1).val) 1#32) 0#32)).toNat,
      (Scalar.indexCast (BitVec.ofNat 32 (i 0).val)).toNat, 0] : Fin 3 → ℕ) = _
    rw [head_toNat (i 1), batch_toNat (i 0)]
  unfold dosRow
  rw [show ∀ v : Vec Ideal S1x1x1024 .f32, shapeCast S1x1024 v shapeCasts_S1x1x1024_S1x1024 (ix2 0 t)
      = v (ix3 0 0 t) from fun v => shapeCast_1ab_ab_apply v _ 0 t]
  rw [View.readAt_eq_ld, harg.read_unread]
  refine View.ld_unit_apply_of x _ _ _ _ _ fun a => ?_
  refine Eq.trans ?_ (congrArg (· + _) (congrFun hoff a).symm)
  match a with
  | ⟨0, _⟩ => rfl
  | ⟨1, _⟩ => rfl
  | ⟨2, _⟩ => exact (Nat.zero_add _).symm

theorem rowsAt_apply {d : ℕ} {e : EltTy} (n : ℕ) (arg : Memref sig .tc .vmem ⟨4, ![1, 1, 1024, d]⟩ e)
    (harg : arg.IsWhole) (x : Vec Ideal ⟨4, ![1, 1, 1024, d]⟩ e) (o : ℕ) (h : o + n ≤ 1024) (r : Fin n) (j : Fin d) :
    rowsAt n arg harg x o h (ix4 0 0 r j) = x (ix4 0 0 ⟨o + r.val, by omega⟩ j) := by
  unfold rowsAt
  rw [View.readAt_eq_ld, harg.read_unread]
  refine View.ld_unit_apply_of x _ _ _ _ _ fun a => ?_
  match a with
  | ⟨0, _⟩ => rfl
  | ⟨1, _⟩ => rfl
  | ⟨2, _⟩ => rfl
  | ⟨3, _⟩ => exact (Nat.zero_add _).symm

theorem dosRow_real (i : grid0.Coords) (arg : Memref sig .tc .vmem S6x32x1024 .f32) (harg : arg.IsWhole)
    {x : Vec Ideal S6x32x1024 .f32} {f : ℕ → ℝ} (hx : ∀ t : Fin 1024, x (ix3 (i 1) (i 0) t) = ((f t : ℝ) : EReal)) :
    R2 (dosRow i arg harg x) (fun _ t => f t) := fun r t => by
  have hr : r = 0 := Subsingleton.elim (α := Fin 1) _ _
  subst hr
  exact (dosRow_eq i arg harg x t).trans (hx t)

theorem dosSlice_real {n : ℕ} (o : ℕ) (h : o + n ≤ 1024) {v : FVec Ideal S1x1024 .f32} {f : ℕ → ℝ}
    (hv : R2 v fun _ t => f t) :
    R2 (extractStridedSlice ⟨2, ![1, n]⟩ ![0, o] v (slices_row n o h)) (fun _ j => f (o + j)) := fun r j => by
  rw [← hv 0 ⟨o + j.val, by omega⟩]
  refine extractStridedSlice_apply _ _ _ _ _ fun a => ?_
  match a with
  | ⟨0, _⟩ => exact (by simp)
  | ⟨1, _⟩ => rfl

/-- What the windows hold at the point of head `h` and batch entry `b`. -/
structure Inputs (h : Fin 6) (b : Fin 32) (x0 x1 x2 : Vec Ideal S6x16x32 .f32) (x3 x4 : Vec Ideal S1x1x1024x128 .fp8e4m3)
    (x5 : Vec Ideal S1x1x1024x256 .fp8e4m3) (x6 : Vec Ideal S1x1x1024x256 .fp8e5m2) (x7 : Vec Ideal S6x32x1024 .f32)
    (X : Data) : Prop where
  qs : ∀ n : Fin 16, x0 (ix3 h n b) = ((X.qs n : ℝ) : EReal)
  ks : ∀ n : Fin 16, x1 (ix3 h n b) = ((X.ks n : ℝ) : EReal)
  vs : ∀ n : Fin 16, x2 (ix3 h n b) = ((X.vs n : ℝ) : EReal)
  q : R4 x3 X.q
  k : R4 x4 X.k
  v : R4 x5 X.v
  dO : R4 x6 X.dO
  dos : ∀ t : Fin 1024, x7 (ix3 h b t) = ((X.dos t : ℝ) : EReal)
  c : (outScale : Ideal .f32) = ((X.c : ℝ) : EReal)

theorem blockOff_eq {c : ℕ} (h : c < 4) : blockOff c = 256 * c := by
  unfold blockOff; rw [show (Fin.ofNat 4 c).val = c from Nat.mod_eq_of_lt h]

theorem halfOff_eq {g : ℕ} (h : g < 8) : halfOff g = 128 * g := by
  unfold halfOff; rw [show (Fin.ofNat 8 g).val = g from Nat.mod_eq_of_lt h]

theorem R2.off {m n : ℕ} {v : (⟨2, ![m, n]⟩ : Shape).Idx → EReal} {f : ℕ → ℕ → ℕ → ℝ} {o o' : ℕ} (h : R2 v (f o)) (e : o = o') :
    R2 v (f o') := e ▸ h

theorem R4.off {m n : ℕ} {v : (⟨4, ![1, 1, m, n]⟩ : Shape).Idx → EReal} {f : ℕ → ℕ → ℕ → ℝ} {o o' : ℕ} (h : R4 v (f o)) (e : o = o') :
    R4 v (f o') := e ▸ h

variable (c : Dev nD) (i : grid0.Coords) (arg2 : Memref sig .tc .smem S6x16x32 .f32) (harg2 : arg2.IsWhole)
    (arg3 : Memref sig .tc .smem S6x16x32 .f32) (harg3 : arg3.IsWhole)
    (arg4 : Memref sig .tc .smem S6x16x32 .f32) (harg4 : arg4.IsWhole)
    (arg5 : Memref sig .tc .vmem S1x1x1024x128 .fp8e4m3) (harg5 : arg5.IsWhole)
    (arg6 : Memref sig .tc .vmem S1x1x1024x128 .fp8e4m3) (harg6 : arg6.IsWhole)
    (arg7 : Memref sig .tc .vmem S1x1x1024x256 .fp8e4m3) (harg7 : arg7.IsWhole)
    (arg8 : Memref sig .tc .vmem S1x1x1024x256 .fp8e5m2) (harg8 : arg8.IsWhole)
    (arg9 : Memref sig .tc .vmem S6x32x1024 .f32) (harg9 : arg9.IsWhole)
    (arg10 : Memref sig .tc .vmem S1x1x1024x128 .bf16) (harg10 : arg10.IsWhole)
    (arg11 : Memref sig .tc .vmem S1x1x1024x128 .bf16) (harg11 : arg11.IsWhole)
    (arg12 : Memref sig .tc .vmem S1x1x1024x256 .bf16) (harg12 : arg12.IsWhole)
    (arg13 : Memref sig .tc .vmem S1x4x256x256 .bf16) (harg13 : arg13.IsWhole)
    (arg14 : Memref sig .tc .vmem S1x4x128x256 .bf16) (harg14 : arg14.IsWhole)
    (x0 : Vec Ideal S6x16x32 .f32) (x1 : Vec Ideal S6x16x32 .f32) (x2 : Vec Ideal S6x16x32 .f32) (x3 : Vec Ideal S1x1x1024x128 .fp8e4m3)
    (x4 : Vec Ideal S1x1x1024x128 .fp8e4m3) (x5 : Vec Ideal S1x1x1024x256 .fp8e4m3) (x6 : Vec Ideal S1x1x1024x256 .fp8e5m2)
    (x7 : Vec Ideal S6x32x1024 .f32) (X : Data)
  (qt : ℕ → FVec Ideal S1x128x256 .bf16) (dm : ℕ → FVec Ideal S1x256x256 .bf16)

/-- What the body reads is what the windows hold. -/
theorem holds (H : Inputs (i 1) (i 0) x0 x1 x2 x3 x4 x5 x6 x7 X) : Holds (reads i arg2 harg2 arg3 harg3 arg4 harg4 arg5 harg5 arg6 harg6 arg7 harg7 arg8 harg8 arg9 harg9 x0 x1 x2 x3 x4 x5 x6 x7 qt dm) X where
  qs n h := (scaleAt_eq i _ _ _ ⟨n, h⟩).trans (H.qs ⟨n, h⟩)
  ks n h := (scaleAt_eq i _ _ _ ⟨n, h⟩).trans (H.ks ⟨n, h⟩)
  vs n h := (scaleAt_eq i _ _ _ ⟨n, h⟩).trans (H.vs ⟨n, h⟩)
  dosB c h := R2.off (f := fun o _ j => X.dos (o + j)) (dosSlice_real _ (blockOff_le c) (dosRow_real i _ _ H.dos)) (blockOff_eq h)
  dosH g h := R2.off (f := fun o _ j => X.dos (o + j)) (dosSlice_real _ (halfOff_le g) (dosRow_real i _ _ H.dos)) (halfOff_eq h)
  q c h := R4.off (f := fun o r d => X.q (o + r) d) (fun r j => (rowsAt_apply 256 _ _ _ _ (blockOff_le c) r j).trans (H.q _ j)) (blockOff_eq h)
  k c h := R4.off (f := fun o r d => X.k (o + r) d) (fun r j => (rowsAt_apply 256 _ _ _ _ (blockOff_le c) r j).trans (H.k _ j)) (blockOff_eq h)
  v c h := R4.off (f := fun o r d => X.v (o + r) d) (fun r j => (rowsAt_apply 256 _ _ _ _ (blockOff_le c) r j).trans (H.v _ j)) (blockOff_eq h)
  dO c h := R4.off (f := fun o r d => X.dO (o + r) d) (fun r j => (rowsAt_apply 256 _ _ _ _ (blockOff_le c) r j).trans (H.dO _ j)) (blockOff_eq h)
  qH c h := R4.off (f := fun o r d => X.q (o + r) d) (fun r j => (rowsAt_apply 128 _ _ _ _ (halfOff_le c) r j).trans (H.q _ j)) (halfOff_eq h)
  kH c h := R4.off (f := fun o r d => X.k (o + r) d) (fun r j => (rowsAt_apply 128 _ _ _ _ (halfOff_le c) r j).trans (H.k _ j)) (halfOff_eq h)
  dOH c h := R4.off (f := fun o r d => X.dO (o + r) d) (fun r j => (rowsAt_apply 128 _ _ _ _ (halfOff_le c) r j).trans (H.dO _ j)) (halfOff_eq h)
  c := H.c

/-- A stored block of rows agrees with the whole array's element function. -/
theorem R4.piece {n m d : ℕ} {o : ℕ} {v : (⟨4, ![1, 1, n, d]⟩ : Shape).Idx → EReal} {f : ℕ → ℕ → ℝ}
    (h : R4 v fun r j => f (o + r) j) (inb : ∀ a, (![0, 0, o, 0] : Fin 4 → ℕ) a + (⟨4, ![1, 1, n, d]⟩ : Shape).size a ≤ (⟨4, ![1, 1, m, d]⟩ : Shape).size a)
    (x : (⟨4, ![1, 1, n, d]⟩ : Shape).Idx) :
    v x = (fun y : (⟨4, ![1, 1, m, d]⟩ : Shape).Idx => ((f (y (2 : Fin 4)).val (y (3 : Fin 4)).val : ℝ) : EReal))
      ((Rect.unit (s := ⟨4, ![1, 1, m, d]⟩) ![0, 0, o, 0] (⟨4, ![1, 1, n, d]⟩ : Shape).size inb).emb x) := by
  obtain ⟨r, j, rfl⟩ : ∃ (r : Fin n) (j : Fin d), x = ix4 0 0 r j := ⟨x (2 : Fin 4), x (3 : Fin 4), funext fun a => match a with
    | ⟨0, _⟩ => Subsingleton.elim (α := Fin 1) _ _
    | ⟨1, _⟩ => Subsingleton.elim (α := Fin 1) _ _
    | ⟨2, _⟩ => rfl
    | ⟨3, _⟩ => rfl⟩
  have h2 : (((Rect.unit (s := ⟨4, ![1, 1, m, d]⟩) ![0, 0, o, 0] (⟨4, ![1, 1, n, d]⟩ : Shape).size inb).emb (ix4 0 0 r j)) (2 : Fin 4)).val
      = o + r.val := Rect.idx_unit_val (s := ⟨4, ![1, 1, m, d]⟩) _ _ inb _ (2 : Fin 4)
  have h3 : (((Rect.unit (s := ⟨4, ![1, 1, m, d]⟩) ![0, 0, o, 0] (⟨4, ![1, 1, n, d]⟩ : Shape).size inb).emb (ix4 0 0 r j)) (3 : Fin 4)).val
      = j.val := (Rect.idx_unit_val (s := ⟨4, ![1, 1, m, d]⟩) _ _ inb _ (3 : Fin 4)).trans (Nat.zero_add _)
  show v (ix4 0 0 r j) = ((f _ _ : ℝ) : EReal)
  rw [h2, h3, ← h r j]

end Cert.KernelIdeal
end
end
-- ==== Proof.Scratch.lean ====
/- The scratch arrays read back hold what was stored in them. -/
module

public import proofs.«01_k».proof.Proof.Bridge
public import proofs.«01_k».proof.Proof.Held
import all proofs.«01_k».proof.Proof.Gen.KernelIdeal.Frame.RunA

@[expose] public section

set_option synthInstance.maxSize 4096
set_option maxRecDepth 16384

noncomputable section

namespace Cert.KernelIdeal

open Idealize.ShloMosaic Idealize.ShloMosaic.ValueIdx Gen LinAttn

/-- A stack's plane agrees with the whole stack's element function. -/
theorem R4.plane {m n k : ℕ} {o : ℕ} {v : (⟨4, ![1, 1, m, n]⟩ : Shape).Idx → EReal} {f : ℕ → ℕ → ℕ → ℝ}
    (h : R4 v (f o)) (inb : ∀ a, (![0, o, 0, 0] : Fin 4 → ℕ) a + (⟨4, ![1, 1, m, n]⟩ : Shape).size a ≤ (⟨4, ![1, k, m, n]⟩ : Shape).size a)
    (x : (⟨4, ![1, 1, m, n]⟩ : Shape).Idx) :
    v x = (fun y : (⟨4, ![1, k, m, n]⟩ : Shape).Idx => ((f (y (1 : Fin 4)).val (y (2 : Fin 4)).val (y (3 : Fin 4)).val : ℝ) : EReal))
      ((Rect.unit (s := ⟨4, ![1, k, m, n]⟩) ![0, o, 0, 0] (⟨4, ![1, 1, m, n]⟩ : Shape).size inb).emb x) := by
  obtain ⟨r, j, rfl⟩ : ∃ (r : Fin m) (j : Fin n), x = ix4 0 0 r j := ⟨x (2 : Fin 4), x (3 : Fin 4), funext fun a => match a with
    | ⟨0, _⟩ => Subsingleton.elim (α := Fin 1) _ _
    | ⟨1, _⟩ => Subsingleton.elim (α := Fin 1) _ _
    | ⟨2, _⟩ => rfl
    | ⟨3, _⟩ => rfl⟩
  have h1 : (((Rect.unit (s := ⟨4, ![1, k, m, n]⟩) ![0, o, 0, 0] (⟨4, ![1, 1, m, n]⟩ : Shape).size inb).emb (ix4 0 0 r j)) (1 : Fin 4)).val
      = o := Rect.idx_unit_val (s := ⟨4, ![1, k, m, n]⟩) _ _ inb _ (1 : Fin 4)
  have h2 : (((Rect.unit (s := ⟨4, ![1, k, m, n]⟩) ![0, o, 0, 0] (⟨4, ![1, 1, m, n]⟩ : Shape).size inb).emb (ix4 0 0 r j)) (2 : Fin 4)).val
      = r.val := (Rect.idx_unit_val (s := ⟨4, ![1, k, m, n]⟩) _ _ inb _ (2 : Fin 4)).trans (Nat.zero_add _)
  have h3 : (((Rect.unit (s := ⟨4, ![1, k, m, n]⟩) ![0, o, 0, 0] (⟨4, ![1, 1, m, n]⟩ : Shape).size inb).emb (ix4 0 0 r j)) (3 : Fin 4)).val
      = j.val := (Rect.idx_unit_val (s := ⟨4, ![1, k, m, n]⟩) _ _ inb _ (3 : Fin 4)).trans (Nat.zero_add _)
  show v (ix4 0 0 r j) = ((f _ _ _ : ℝ) : EReal)
  rw [h1, h2, h3, ← h r j]

/-- Every index of a stack of four planes lies in its plane's rectangle. -/
theorem plane_mem {m n : ℕ} (c : Fin 4) (d : Fin m) (j : Fin n) (o : ℕ) (ho : o = c.val)
    (inb : ∀ a, (![0, o, 0, 0] : Fin 4 → ℕ) a + (⟨4, ![1, 1, m, n]⟩ : Shape).size a ≤ (⟨4, ![1, 4, m, n]⟩ : Shape).size a) :
    (ix4 0 c d j : (⟨4, ![1, 4, m, n]⟩ : Shape).Idx) ∈
      (Rect.unit (s := ⟨4, ![1, 4, m, n]⟩) ![0, o, 0, 0] (⟨4, ![1, 1, m, n]⟩ : Shape).size inb).set := by
  subst ho
  rw [Rect.mem_set_unit]
  exact fun a => match a with
    | ⟨0, _⟩ => ⟨Nat.le_refl 0, Nat.one_pos⟩
    | ⟨1, _⟩ => ⟨Nat.le_refl c.val, Nat.lt_succ_self c.val⟩
    | ⟨2, _⟩ => ⟨Nat.zero_le _, (Nat.zero_add m).symm ▸ d.isLt⟩
    | ⟨3, _⟩ => ⟨Nat.zero_le _, (Nat.zero_add n).symm ▸ j.isLt⟩

theorem shapeCast_11ab_1ab {α : Type} {a b : ℕ} (v : (⟨4, ![1, 1, a, b]⟩ : Shape).Idx → α)
    (h : (⟨4, ![1, 1, a, b]⟩ : Shape).ShapeCasts ⟨3, ![1, a, b]⟩) (d : Fin a) (j : Fin b) :
    shapeCast ⟨3, ![1, a, b]⟩ v h (ix3 0 d j) = v (ix4 0 0 d j) := by
  unfold shapeCast
  refine congrArg v (Shape.reshapeEquiv_eq_of_rowMajor _ ?_)
  rw [Shape.rowMajor_val_four, Shape.rowMajor_val_three]
  show _ = ((0 * a + d.val) * b + j.val)
  show (((0 * 1 + 0) * a + d.val) * b + j.val) = _
  simp only [Nat.zero_mul, Nat.zero_add]

variable (c : Dev nD) (i : grid0.Coords) (arg2 : Memref sig .tc .smem S6x16x32 .f32) (harg2 : arg2.IsWhole)
    (arg3 : Memref sig .tc .smem S6x16x32 .f32) (harg3 : arg3.IsWhole)
    (arg4 : Memref sig .tc .smem S6x16x32 .f32) (harg4 : arg4.IsWhole)
    (arg5 : Memref sig .tc .vmem S1x1x1024x128 .fp8e4m3) (harg5 : arg5.IsWhole)
    (arg6 : Memref sig .tc .vmem S1x1x1024x128 .fp8e4m3) (harg6 : arg6.IsWhole)
    (arg7 : Memref sig .tc .vmem S1x1x1024x256 .fp8e4m3) (harg7 : arg7.IsWhole)
    (arg8 : Memref sig .tc .vmem S1x1x1024x256 .fp8e5m2) (harg8 : arg8.IsWhole)
    (arg9 : Memref sig .tc .vmem S6x32x1024 .f32) (harg9 : arg9.IsWhole)
    (arg10 : Memref sig .tc .vmem S1x1x1024x128 .bf16) (harg10 : arg10.IsWhole)
    (arg11 : Memref sig .tc .vmem S1x1x1024x128 .bf16) (harg11 : arg11.IsWhole)
    (arg12 : Memref sig .tc .vmem S1x1x1024x256 .bf16) (harg12 : arg12.IsWhole)
    (arg13 : Memref sig .tc .vmem S1x4x256x256 .bf16) (harg13 : arg13.IsWhole)
    (arg14 : Memref sig .tc .vmem S1x4x128x256 .bf16) (harg14 : arg14.IsWhole)
    (x0 : Vec Ideal S6x16x32 .f32) (x1 : Vec Ideal S6x16x32 .f32) (x2 : Vec Ideal S6x16x32 .f32) (x3 : Vec Ideal S1x1x1024x128 .fp8e4m3)
    (x4 : Vec Ideal S1x1x1024x128 .fp8e4m3) (x5 : Vec Ideal S1x1x1024x256 .fp8e4m3) (x6 : Vec Ideal S1x1x1024x256 .fp8e5m2)
    (x7 : Vec Ideal S6x32x1024 .f32) (X : Data)

theorem qtBack_0 (d : Fin 128) (j : Fin 256) : qtBack c i arg2 harg2 arg5 harg5 arg9 harg9 arg14 x0 x3 x7 0 (ix3 0 d j) = View.canon (kernelRun0_A.sl.HS1_4 c i arg2 harg2 arg5 harg5 arg9 harg9 x0 x3 x7) (ix4 0 0 d j) := by
  show shapeCast S1x128x256 (s := S1x1x128x256) (kernelRun0_A.sl.v1147 c i arg2 harg2 arg5 harg5 arg9 harg9 arg14 x0 x3 x7) _ (ix3 0 d j) = _
  refine (shapeCast_11ab_1ab _ _ d j).trans ?_
  unfold kernelRun0_A.sl.v1147
  rw [View.readCov_eq_canon']
  refine congrArg (View.canon _) (funext fun a => Fin.ext ?_)
  match a with
  | ⟨0, _⟩ => rfl
  | ⟨1, _⟩ => rfl
  | ⟨2, _⟩ => exact (by show 0 + 0 + 1 * d.val = d.val; omega)
  | ⟨3, _⟩ => exact (by show 0 + 0 + 1 * j.val = j.val; omega)

theorem qtBack_1 (d : Fin 128) (j : Fin 256) : qtBack c i arg2 harg2 arg5 harg5 arg9 harg9 arg14 x0 x3 x7 1 (ix3 0 d j) = View.canon (kernelRun0_A.sl.HS1_4 c i arg2 harg2 arg5 harg5 arg9 harg9 x0 x3 x7) (ix4 0 1 d j) := by
  show shapeCast S1x128x256 (s := S1x1x128x256) (kernelRun0_A.sl.v968 c i arg2 harg2 arg5 harg5 arg9 harg9 arg14 x0 x3 x7) _ (ix3 0 d j) = _
  refine (shapeCast_11ab_1ab _ _ d j).trans ?_
  unfold kernelRun0_A.sl.v968
  rw [View.readCov_eq_canon']
  refine congrArg (View.canon _) (funext fun a => Fin.ext ?_)
  match a with
  | ⟨0, _⟩ => rfl
  | ⟨1, _⟩ => rfl
  | ⟨2, _⟩ => exact (by show 0 + 0 + 1 * d.val = d.val; omega)
  | ⟨3, _⟩ => exact (by show 0 + 0 + 1 * j.val = j.val; omega)

theorem qtBack_2 (d : Fin 128) (j : Fin 256) : qtBack c i arg2 harg2 arg5 harg5 arg9 harg9 arg14 x0 x3 x7 2 (ix3 0 d j) = View.canon (kernelRun0_A.sl.HS1_4 c i arg2 harg2 arg5 harg5 arg9 harg9 x0 x3 x7) (ix4 0 2 d j) := by
  show shapeCast S1x128x256 (s := S1x1x128x256) (kernelRun0_A.sl.v789 c i arg2 harg2 arg5 harg5 arg9 harg9 arg14 x0 x3 x7) _ (ix3 0 d j) = _
  refine (shapeCast_11ab_1ab _ _ d j).trans ?_
  unfold kernelRun0_A.sl.v789
  rw [View.readCov_eq_canon']
  refine congrArg (View.canon _) (funext fun a => Fin.ext ?_)
  match a with
  | ⟨0, _⟩ => rfl
  | ⟨1, _⟩ => rfl
  | ⟨2, _⟩ => exact (by show 0 + 0 + 1 * d.val = d.val; omega)
  | ⟨3, _⟩ => exact (by show 0 + 0 + 1 * j.val = j.val; omega)

theorem qtBack_3 (d : Fin 128) (j : Fin 256) : qtBack c i arg2 harg2 arg5 harg5 arg9 harg9 arg14 x0 x3 x7 3 (ix3 0 d j) = View.canon (kernelRun0_A.sl.HS1_4 c i arg2 harg2 arg5 harg5 arg9 harg9 x0 x3 x7) (ix4 0 3 d j) := by
  show shapeCast S1x128x256 (s := S1x1x128x256) (kernelRun0_A.sl.v619 c i arg2 harg2 arg5 harg5 arg9 harg9 arg14 x0 x3 x7) _ (ix3 0 d j) = _
  refine (shapeCast_11ab_1ab _ _ d j).trans ?_
  unfold kernelRun0_A.sl.v619
  rw [View.readCov_eq_canon']
  refine congrArg (View.canon _) (funext fun a => Fin.ext ?_)
  match a with
  | ⟨0, _⟩ => rfl
  | ⟨1, _⟩ => rfl
  | ⟨2, _⟩ => exact (by show 0 + 0 + 1 * d.val = d.val; omega)
  | ⟨3, _⟩ => exact (by show 0 + 0 + 1 * j.val = j.val; omega)

theorem dmBack_0 (d : Fin 256) (j : Fin 256) : dmBack c arg7 harg7 arg8 harg8 arg13 x5 x6 0 (ix3 0 d j) = View.canon (kernelRun0_A.sl.HS0_4 c arg7 harg7 arg8 harg8 x5 x6) (ix4 0 0 d j) := by
  show shapeCast S1x256x256 (s := S1x1x256x256) (kernelRun0_A.sl.v1151 c arg7 harg7 arg8 harg8 arg13 x5 x6) _ (ix3 0 d j) = _
  refine (shapeCast_11ab_1ab _ _ d j).trans ?_
  unfold kernelRun0_A.sl.v1151
  rw [View.readCov_eq_canon']
  refine congrArg (View.canon _) (funext fun a => Fin.ext ?_)
  match a with
  | ⟨0, _⟩ => rfl
  | ⟨1, _⟩ => rfl
  | ⟨2, _⟩ => exact (by show 0 + 0 + 1 * d.val = d.val; omega)
  | ⟨3, _⟩ => exact (by show 0 + 0 + 1 * j.val = j.val; omega)

theorem dmBack_1 (d : Fin 256) (j : Fin 256) : dmBack c arg7 harg7 arg8 harg8 arg13 x5 x6 1 (ix3 0 d j) = View.canon (kernelRun0_A.sl.HS0_4 c arg7 harg7 arg8 harg8 x5 x6) (ix4 0 1 d j) := by
  show shapeCast S1x256x256 (s := S1x1x256x256) (kernelRun0_A.sl.v972 c arg7 harg7 arg8 harg8 arg13 x5 x6) _ (ix3 0 d j) = _
  refine (shapeCast_11ab_1ab _ _ d j).trans ?_
  unfold kernelRun0_A.sl.v972
  rw [View.readCov_eq_canon']
  refine congrArg (View.canon _) (funext fun a => Fin.ext ?_)
  match a with
  | ⟨0, _⟩ => rfl
  | ⟨1, _⟩ => rfl
  | ⟨2, _⟩ => exact (by show 0 + 0 + 1 * d.val = d.val; omega)
  | ⟨3, _⟩ => exact (by show 0 + 0 + 1 * j.val = j.val; omega)

theorem dmBack_2 (d : Fin 256) (j : Fin 256) : dmBack c arg7 harg7 arg8 harg8 arg13 x5 x6 2 (ix3 0 d j) = View.canon (kernelRun0_A.sl.HS0_4 c arg7 harg7 arg8 harg8 x5 x6) (ix4 0 2 d j) := by
  show shapeCast S1x256x256 (s := S1x1x256x256) (kernelRun0_A.sl.v793 c arg7 harg7 arg8 harg8 arg13 x5 x6) _ (ix3 0 d j) = _
  refine (shapeCast_11ab_1ab _ _ d j).trans ?_
  unfold kernelRun0_A.sl.v793
  rw [View.readCov_eq_canon']
  refine congrArg (View.canon _) (funext fun a => Fin.ext ?_)
  match a with
  | ⟨0, _⟩ => rfl
  | ⟨1, _⟩ => rfl
  | ⟨2, _⟩ => exact (by show 0 + 0 + 1 * d.val = d.val; omega)
  | ⟨3, _⟩ => exact (by show 0 + 0 + 1 * j.val = j.val; omega)

theorem dmBack_3 (d : Fin 256) (j : Fin 256) : dmBack c arg7 harg7 arg8 harg8 arg13 x5 x6 3 (ix3 0 d j) = View.canon (kernelRun0_A.sl.HS0_4 c arg7 harg7 arg8 harg8 x5 x6) (ix4 0 3 d j) := by
  show shapeCast S1x256x256 (s := S1x1x256x256) (kernelRun0_A.sl.v623 c arg7 harg7 arg8 harg8 arg13 x5 x6) _ (ix3 0 d j) = _
  refine (shapeCast_11ab_1ab _ _ d j).trans ?_
  unfold kernelRun0_A.sl.v623
  rw [View.readCov_eq_canon']
  refine congrArg (View.canon _) (funext fun a => Fin.ext ?_)
  match a with
  | ⟨0, _⟩ => rfl
  | ⟨1, _⟩ => rfl
  | ⟨2, _⟩ => exact (by show 0 + 0 + 1 * d.val = d.val; omega)
  | ⟨3, _⟩ => exact (by show 0 + 0 + 1 * j.val = j.val; omega)

/-- The stored scaled rows of `q`, by plane. -/
theorem qtStack (ρ : Reads Ideal) (H : Holds ρ X) (c : Fin 4) (d : Fin 128) (j : Fin 256) :
    View.canon (qtPieces ρ) (ix4 0 c d j) = ((X.qt (256 * c.val + j.val) d.val : ℝ) : EReal) := by
  refine View.canon_apply_of_pieces (Val := Elt Ideal) (fun y : S1x4x128x256.Idx =>
    ((X.qt (256 * (y (1 : Fin 4)).val + (y (3 : Fin 4)).val) (y (2 : Fin 4)).val : ℝ) : EReal)) (qtPieces ρ) ?_ _ ?_
  · have P : ∀ o < 4, ∀ inb x, _ := fun o ho inb x =>
      R4.plane (k := 4) (f := fun o d j => X.qt (256 * o + j) d)
        (R3.add4 (R2.add3 (qT_real H o ho) shapeCasts_S128x256_S1x128x256) shapeCasts_S1x128x256_S1x1x128x256) inb x
    intro p hp
    simp only [qtPieces, List.mem_cons, List.not_mem_nil, or_false] at hp
    rcases hp with rfl | rfl | rfl | rfl
    · exact P 3 (by decide) inb_S1x4x128x256_S1x1x128x256_0_3_0_0
    · exact P 2 (by decide) inb_S1x4x128x256_S1x1x128x256_0_2_0_0
    · exact P 1 (by decide) inb_S1x4x128x256_S1x1x128x256_0_1_0_0
    · exact P 0 (by decide) inb_S1x4x128x256_S1x1x128x256_0_0_0_0
  · fin_cases c
    · exact ⟨_, .tail _ (.tail _ (.tail _ (.head _))), plane_mem 0 d j 0 rfl inb_S1x4x128x256_S1x1x128x256_0_0_0_0⟩
    · exact ⟨_, .tail _ (.tail _ (.head _)), plane_mem 1 d j 1 rfl inb_S1x4x128x256_S1x1x128x256_0_1_0_0⟩
    · exact ⟨_, .tail _ (.head _), plane_mem 2 d j 2 rfl inb_S1x4x128x256_S1x1x128x256_0_2_0_0⟩
    · exact ⟨_, .head _, plane_mem 3 d j 3 rfl inb_S1x4x128x256_S1x1x128x256_0_3_0_0⟩

/-- The stored masked inner products, by plane. -/
theorem dmStack (ρ : Reads Ideal) (H : Holds ρ X) (c : Fin 4) (r : Fin 256) (j : Fin 256) :
    View.canon (dmPieces ρ) (ix4 0 c r j) = ((X.dm c.val r.val j.val : ℝ) : EReal) := by
  refine View.canon_apply_of_pieces (Val := Elt Ideal) (fun y : S1x4x256x256.Idx =>
    ((X.dm (y (1 : Fin 4)).val (y (2 : Fin 4)).val (y (3 : Fin 4)).val : ℝ) : EReal)) (dmPieces ρ) ?_ _ ?_
  · have P : ∀ o < 4, ∀ inb x, _ := fun o ho inb x =>
      R4.plane (k := 4) (f := X.dm)
        (R3.add4 (R2.add3 (masked_real H o ho) shapeCasts_S256x256_S1x256x256) shapeCasts_S1x256x256_S1x1x256x256) inb x
    intro p hp
    simp only [dmPieces, List.mem_cons, List.not_mem_nil, or_false] at hp
    rcases hp with rfl | rfl | rfl | rfl
    · exact P 3 (by decide) inb_S1x4x256x256_S1x1x256x256_0_3_0_0
    · exact P 2 (by decide) inb_S1x4x256x256_S1x1x256x256_0_2_0_0
    · exact P 1 (by decide) inb_S1x4x256x256_S1x1x256x256_0_1_0_0
    · exact P 0 (by decide) inb_S1x4x256x256_S1x1x256x256_0_0_0_0
  · fin_cases c
    · exact ⟨_, .tail _ (.tail _ (.tail _ (.head _))), plane_mem 0 r j 0 rfl inb_S1x4x256x256_S1x1x256x256_0_0_0_0⟩
    · exact ⟨_, .tail _ (.tail _ (.head _)), plane_mem 1 r j 1 rfl inb_S1x4x256x256_S1x1x256x256_0_1_0_0⟩
    · exact ⟨_, .tail _ (.head _), plane_mem 2 r j 2 rfl inb_S1x4x256x256_S1x1x256x256_0_2_0_0⟩
    · exact ⟨_, .head _, plane_mem 3 r j 3 rfl inb_S1x4x256x256_S1x1x256x256_0_3_0_0⟩

/-- What the body reads back from its scratch arrays. -/
theorem kept (H : Inputs (i 1) (i 0) x0 x1 x2 x3 x4 x5 x6 x7 X) : Kept (allReads c i arg2 harg2 arg3 harg3 arg4 harg4 arg5 harg5 arg6 harg6 arg7 harg7 arg8 harg8 arg9 harg9 arg13 arg14 x0 x1 x2 x3 x4 x5 x6 x7) X where
  qt n hn d j := by
    have S := fun n : Fin 4 => qtStack X _ (holds i arg2 harg2 arg3 harg3 arg4 harg4 arg5 harg5 arg6 harg6 arg7 harg7 arg8 harg8 arg9 harg9 x0 x1 x2 x3 x4 x5 x6 x7 X (fun _ _ => Scalar.ofBits .bf16 0x0000#16) (fun _ _ => Scalar.ofBits .bf16 0x0000#16) H) n d j
    match n, hn with
    | 0, _ => exact (qtBack_0 c i arg2 harg2 arg5 harg5 arg9 harg9 arg14 x0 x3 x7 d j).trans ((congrArg (fun L => View.canon L _) (qtStored c i arg2 harg2 arg3 harg3 arg4 harg4 arg5 harg5 arg6 harg6 arg7 harg7 arg8 harg8 arg9 harg9 x0 x1 x2 x3 x4 x5 x6 x7)).trans (S 0))
    | 1, _ => exact (qtBack_1 c i arg2 harg2 arg5 harg5 arg9 harg9 arg14 x0 x3 x7 d j).trans ((congrArg (fun L => View.canon L _) (qtStored c i arg2 harg2 arg3 harg3 arg4 harg4 arg5 harg5 arg6 harg6 arg7 harg7 arg8 harg8 arg9 harg9 x0 x1 x2 x3 x4 x5 x6 x7)).trans (S 1))
    | 2, _ => exact (qtBack_2 c i arg2 harg2 arg5 harg5 arg9 harg9 arg14 x0 x3 x7 d j).trans ((congrArg (fun L => View.canon L _) (qtStored c i arg2 harg2 arg3 harg3 arg4 harg4 arg5 harg5 arg6 harg6 arg7 harg7 arg8 harg8 arg9 harg9 x0 x1 x2 x3 x4 x5 x6 x7)).trans (S 2))
    | 3, _ => exact (qtBack_3 c i arg2 harg2 arg5 harg5 arg9 harg9 arg14 x0 x3 x7 d j).trans ((congrArg (fun L => View.canon L _) (qtStored c i arg2 harg2 arg3 harg3 arg4 harg4 arg5 harg5 arg6 harg6 arg7 harg7 arg8 harg8 arg9 harg9 x0 x1 x2 x3 x4 x5 x6 x7)).trans (S 3))
  dm n hn d j := by
    have S := fun n : Fin 4 => dmStack X _ (holds i arg2 harg2 arg3 harg3 arg4 harg4 arg5 harg5 arg6 harg6 arg7 harg7 arg8 harg8 arg9 harg9 x0 x1 x2 x3 x4 x5 x6 x7 X (fun _ _ => Scalar.ofBits .bf16 0x0000#16) (fun _ _ => Scalar.ofBits .bf16 0x0000#16) H) n d j
    match n, hn with
    | 0, _ => exact (dmBack_0 c arg7 harg7 arg8 harg8 arg13 x5 x6 d j).trans ((congrArg (fun L => View.canon L _) (dmStored c i arg2 harg2 arg3 harg3 arg4 harg4 arg5 harg5 arg6 harg6 arg7 harg7 arg8 harg8 arg9 harg9 x0 x1 x2 x3 x4 x5 x6 x7)).trans (S 0))
    | 1, _ => exact (dmBack_1 c arg7 harg7 arg8 harg8 arg13 x5 x6 d j).trans ((congrArg (fun L => View.canon L _) (dmStored c i arg2 harg2 arg3 harg3 arg4 harg4 arg5 harg5 arg6 harg6 arg7 harg7 arg8 harg8 arg9 harg9 x0 x1 x2 x3 x4 x5 x6 x7)).trans (S 1))
    | 2, _ => exact (dmBack_2 c arg7 harg7 arg8 harg8 arg13 x5 x6 d j).trans ((congrArg (fun L => View.canon L _) (dmStored c i arg2 harg2 arg3 harg3 arg4 harg4 arg5 harg5 arg6 harg6 arg7 harg7 arg8 harg8 arg9 harg9 x0 x1 x2 x3 x4 x5 x6 x7)).trans (S 2))
    | 3, _ => exact (dmBack_3 c arg7 harg7 arg8 harg8 arg13 x5 x6 d j).trans ((congrArg (fun L => View.canon L _) (dmStored c i arg2 harg2 arg3 harg3 arg4 harg4 arg5 harg5 arg6 harg6 arg7 harg7 arg8 harg8 arg9 harg9 x0 x1 x2 x3 x4 x5 x6 x7)).trans (S 3))

end Cert.KernelIdeal
end
end
-- ==== Proof.Outputs.lean ====
/- What one grid point leaves in its result windows. -/
module

public import proofs.«01_k».proof.Proof.Scratch

@[expose] public section

set_option synthInstance.maxSize 4096
set_option maxRecDepth 16384
set_option maxHeartbeats 1000000

noncomputable section

namespace Cert.KernelIdeal

open Idealize.ShloMosaic Idealize.ShloMosaic.ValueIdx Gen LinAttn

variable (c : Dev nD) (i : grid0.Coords) (arg2 : Memref sig .tc .smem S6x16x32 .f32) (harg2 : arg2.IsWhole)
    (arg3 : Memref sig .tc .smem S6x16x32 .f32) (harg3 : arg3.IsWhole)
    (arg4 : Memref sig .tc .smem S6x16x32 .f32) (harg4 : arg4.IsWhole)
    (arg5 : Memref sig .tc .vmem S1x1x1024x128 .fp8e4m3) (harg5 : arg5.IsWhole)
    (arg6 : Memref sig .tc .vmem S1x1x1024x128 .fp8e4m3) (harg6 : arg6.IsWhole)
    (arg7 : Memref sig .tc .vmem S1x1x1024x256 .fp8e4m3) (harg7 : arg7.IsWhole)
    (arg8 : Memref sig .tc .vmem S1x1x1024x256 .fp8e5m2) (harg8 : arg8.IsWhole)
    (arg9 : Memref sig .tc .vmem S6x32x1024 .f32) (harg9 : arg9.IsWhole)
    (arg10 : Memref sig .tc .vmem S1x1x1024x128 .bf16) (harg10 : arg10.IsWhole)
    (arg11 : Memref sig .tc .vmem S1x1x1024x128 .bf16) (harg11 : arg11.IsWhole)
    (arg12 : Memref sig .tc .vmem S1x1x1024x256 .bf16) (harg12 : arg12.IsWhole)
    (arg13 : Memref sig .tc .vmem S1x4x256x256 .bf16) (harg13 : arg13.IsWhole)
    (arg14 : Memref sig .tc .vmem S1x4x128x256 .bf16) (harg14 : arg14.IsWhole)
    (x0 : Vec Ideal S6x16x32 .f32) (x1 : Vec Ideal S6x16x32 .f32) (x2 : Vec Ideal S6x16x32 .f32) (x3 : Vec Ideal S1x1x1024x128 .fp8e4m3)
    (x4 : Vec Ideal S1x1x1024x128 .fp8e4m3) (x5 : Vec Ideal S1x1x1024x256 .fp8e4m3) (x6 : Vec Ideal S1x1x1024x256 .fp8e5m2)
    (x7 : Vec Ideal S6x32x1024 .f32) (X : Data)

/-- The window of the gradient of `q`. -/
theorem dq_out_real (H : Inputs (i 1) (i 0) x0 x1 x2 x3 x4 x5 x6 x7 X) (y : S1x1x1024x128.Idx) :
    out0_A_8 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 y = ((X.dq (y (2 : Fin 4)).val (y (3 : Fin 4)).val : ℝ) : EReal) := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7)]
  refine View.canon_apply_of_pieces (Val := Elt Ideal) (fun y : S1x1x1024x128.Idx =>
    ((X.dq (y (2 : Fin 4)).val (y (3 : Fin 4)).val : ℝ) : EReal)) _ ?_ y (cover0_A_8 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 y)
  rw [dq_pieces]
  have Hq := holds i arg2 harg2 arg3 harg3 arg4 harg4 arg5 harg5 arg6 harg6 arg7 harg7 arg8 harg8 arg9 harg9 x0 x1 x2 x3 x4 x5 x6 x7 X (fun _ _ => Scalar.ofBits .bf16 0x0000#16) (fun _ _ => Scalar.ofBits .bf16 0x0000#16) H
  intro p hp
  simp only [dqPieces, List.mem_cons, List.not_mem_nil, or_false] at hp
  rcases hp with rfl | rfl | rfl | rfl
  · exact R4.piece (dqBlock_real Hq 2 (by decide)) inb_S1x1x1024x128_S1x1x256x128_0_0_768_0
  · exact R4.piece (dqBlock_real Hq 1 (by decide)) inb_S1x1x1024x128_S1x1x256x128_0_0_512_0
  · exact R4.piece (dqBlock_real Hq 0 (by decide)) inb_S1x1x1024x128_S1x1x256x128_0_0_256_0
  · exact R4.piece (dqFirst_real Hq) inb_S1x1x1024x128_S1x1x256x128_0_0_0_0

/-- The window of the gradient of `k`. -/
theorem dk_out_real (H : Inputs (i 1) (i 0) x0 x1 x2 x3 x4 x5 x6 x7 X) (y : S1x1x1024x128.Idx) :
    out0_A_9 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 y = ((X.dk (y (2 : Fin 4)).val (y (3 : Fin 4)).val : ℝ) : EReal) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7)]
  refine View.canon_apply_of_pieces (Val := Elt Ideal) (fun y : S1x1x1024x128.Idx =>
    ((X.dk (y (2 : Fin 4)).val (y (3 : Fin 4)).val : ℝ) : EReal)) _ ?_ y (cover0_A_9 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 y)
  rw [dk_pieces]
  have Hk := kept c i arg2 harg2 arg3 harg3 arg4 harg4 arg5 harg5 arg6 harg6 arg7 harg7 arg8 harg8 arg9 harg9 arg13 arg14 x0 x1 x2 x3 x4 x5 x6 x7 X H
  have Hq : Holds (allReads c i arg2 harg2 arg3 harg3 arg4 harg4 arg5 harg5 arg6 harg6 arg7 harg7 arg8 harg8 arg9 harg9 arg13 arg14 x0 x1 x2 x3 x4 x5 x6 x7) X := holds i arg2 harg2 arg3 harg3 arg4 harg4 arg5 harg5 arg6 harg6 arg7 harg7 arg8 harg8 arg9 harg9 x0 x1 x2 x3 x4 x5 x6 x7 X _ _ H
  intro p hp
  simp only [dkPieces, List.mem_cons, List.not_mem_nil, or_false] at hp
  rcases hp with rfl | rfl | rfl | rfl
  · exact R4.piece (dkBlock_real Hq Hk 0 5 (by decide) (by decide)) inb_S1x1x1024x128_S1x1x256x128_0_0_0_0
  · exact R4.piece (dkBlock_real Hq Hk 1 3 (by decide) (by decide)) inb_S1x1x1024x128_S1x1x256x128_0_0_256_0
  · exact R4.piece (dkBlock_real Hq Hk 2 1 (by decide) (by decide)) inb_S1x1x1024x128_S1x1x256x128_0_0_512_0
  · exact R4.piece (dkLast_real Hq Hk) inb_S1x1x1024x128_S1x1x256x128_0_0_768_0

/-- The window of the gradient of `v`. -/
theorem dv_out_real (H : Inputs (i 1) (i 0) x0 x1 x2 x3 x4 x5 x6 x7 X) (y : S1x1x1024x256.Idx) :
    out0_A_10 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 y = ((X.dv (y (2 : Fin 4)).val (y (3 : Fin 4)).val : ℝ) : EReal) := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7)]
  refine View.canon_apply_of_pieces (Val := Elt Ideal) (fun y : S1x1x1024x256.Idx =>
    ((X.dv (y (2 : Fin 4)).val (y (3 : Fin 4)).val : ℝ) : EReal)) _ ?_ y (cover0_A_10 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 y)
  rw [dv_pieces]
  have Hk := kept c i arg2 harg2 arg3 harg3 arg4 harg4 arg5 harg5 arg6 harg6 arg7 harg7 arg8 harg8 arg9 harg9 arg13 arg14 x0 x1 x2 x3 x4 x5 x6 x7 X H
  have Hq : Holds (allReads c i arg2 harg2 arg3 harg3 arg4 harg4 arg5 harg5 arg6 harg6 arg7 harg7 arg8 harg8 arg9 harg9 arg13 arg14 x0 x1 x2 x3 x4 x5 x6 x7) X := holds i arg2 harg2 arg3 harg3 arg4 harg4 arg5 harg5 arg6 harg6 arg7 harg7 arg8 harg8 arg9 harg9 x0 x1 x2 x3 x4 x5 x6 x7 X _ _ H
  intro p hp
  simp only [dvPieces, List.mem_cons, List.not_mem_nil, or_false] at hp
  rcases hp with rfl | rfl | rfl | rfl | rfl | rfl | rfl | rfl | rfl | rfl | rfl | rfl | rfl | rfl | rfl | rfl
  · exact R4.piece (dvBottom_real Hq Hk 0 6 (by decide) (by decide)) inb_S1x1x1024x256_S1x1x64x256_0_0_64_0
  · exact R4.piece (dvTop_real Hq Hk 0 6 (by decide) (by decide)) inb_S1x1x1024x256_S1x1x64x256_0_0_0_0
  · exact R4.piece (dvBottom_real Hq Hk 1 5 (by decide) (by decide)) inb_S1x1x1024x256_S1x1x64x256_0_0_192_0
  · exact R4.piece (dvTop_real Hq Hk 1 5 (by decide) (by decide)) inb_S1x1x1024x256_S1x1x64x256_0_0_128_0
  · exact R4.piece (dvBottom_real Hq Hk 2 4 (by decide) (by decide)) inb_S1x1x1024x256_S1x1x64x256_0_0_320_0
  · exact R4.piece (dvTop_real Hq Hk 2 4 (by decide) (by decide)) inb_S1x1x1024x256_S1x1x64x256_0_0_256_0
  · exact R4.piece (dvBottom_real Hq Hk 3 3 (by decide) (by decide)) inb_S1x1x1024x256_S1x1x64x256_0_0_448_0
  · exact R4.piece (dvTop_real Hq Hk 3 3 (by decide) (by decide)) inb_S1x1x1024x256_S1x1x64x256_0_0_384_0
  · exact R4.piece (dvBottom_real Hq Hk 4 2 (by decide) (by decide)) inb_S1x1x1024x256_S1x1x64x256_0_0_576_0
  · exact R4.piece (dvTop_real Hq Hk 4 2 (by decide) (by decide)) inb_S1x1x1024x256_S1x1x64x256_0_0_512_0
  · exact R4.piece (dvBottom_real Hq Hk 5 1 (by decide) (by decide)) inb_S1x1x1024x256_S1x1x64x256_0_0_704_0
  · exact R4.piece (dvTop_real Hq Hk 5 1 (by decide) (by decide)) inb_S1x1x1024x256_S1x1x64x256_0_0_640_0
  · exact R4.piece (dvBottom_real Hq Hk 6 0 (by decide) (by decide)) inb_S1x1x1024x256_S1x1x64x256_0_0_832_0
  · exact R4.piece (dvTop_real Hq Hk 6 0 (by decide) (by decide)) inb_S1x1x1024x256_S1x1x64x256_0_0_768_0
  · exact R4.piece (dvBottomLast_real Hq) inb_S1x1x1024x256_S1x1x64x256_0_0_960_0
  · exact R4.piece (dvTopLast_real Hq) inb_S1x1x1024x256_S1x1x64x256_0_0_896_0

end Cert.KernelIdeal
end
end
-- ==== Proof.Windows.lean ====
/- The arrays the kernel's windows are blocks of, and what the windows hold at each grid point. -/
module

public import proofs.«01_k».proof.Proof.Args
public import proofs.«01_k».proof.Proof.Outputs

@[expose] public section

set_option synthInstance.maxSize 4096
set_option maxRecDepth 16384

noncomputable section

namespace Cert.KernelIdeal

open Idealize.ShloMosaic Idealize.ShloMosaic.TcCoe Idealize.ShloMosaic.ValueIdx Gen LinAttn Idealize.SL.Sem
open Idealize.ShloMosaic.Pipeline (Dat)

variable (m : (ℓ : Loc nD τ sig) → Buf (Elt Ideal) ℓ)

/-- The kernel's arguments, decoded. -/
def args (c : Dev nD) : Args where
  q := bitcastToFloat (F := Ideal) .fp8e4m3 (s := S32x1024x6x128) (m ((c : Thread nD τ).loc main_arg0))
  k := bitcastToFloat (F := Ideal) .fp8e4m3 (s := S32x1024x6x128) (m ((c : Thread nD τ).loc main_arg1))
  v := bitcastToFloat (F := Ideal) .fp8e4m3 (s := S32x1024x6x256) (m ((c : Thread nD τ).loc main_arg2))
  dO := bitcastToFloat (F := Ideal) .fp8e5m2 (s := S32x1024x6x256) (m ((c : Thread nD τ).loc main_arg6))
  qs := m ((c : Thread nD τ).loc main_arg3)
  ks := m ((c : Thread nD τ).loc main_arg4)
  vs := m ((c : Thread nD τ).loc main_arg5)
  dos := m ((c : Thread nD τ).loc main_arg7)

theorem V_qs (c : Dev nD) : (V m c main_v4 : S6x16x32.Idx → EReal) = transpose S6x16x32 [2, 1, 0] (args m c).qs transposes_S32x16x6_S6x16x32_2_1_0 := by
  show V0 m c _ = _
  after_results
  rfl
theorem V_ks (c : Dev nD) : (V m c main_v5 : S6x16x32.Idx → EReal) = transpose S6x16x32 [2, 1, 0] (args m c).ks transposes_S32x16x6_S6x16x32_2_1_0 := by
  show V0 m c _ = _
  after_results
  rfl
theorem V_vs (c : Dev nD) : (V m c main_v6 : S6x16x32.Idx → EReal) = transpose S6x16x32 [2, 1, 0] (args m c).vs transposes_S32x16x6_S6x16x32_2_1_0 := by
  show V0 m c _ = _
  after_results
  rfl
theorem V_q (c : Dev nD) : (V m c main_v7 : S32x6x1024x128.Idx → EReal) = transpose S32x6x1024x128 [0, 2, 1, 3] (args m c).q transposes_S32x1024x6x128_S32x6x1024x128_0_2_1_3 := by
  show V0 m c _ = _
  after_results
  rfl
theorem V_k (c : Dev nD) : (V m c main_v8 : S32x6x1024x128.Idx → EReal) = transpose S32x6x1024x128 [0, 2, 1, 3] (args m c).k transposes_S32x1024x6x128_S32x6x1024x128_0_2_1_3 := by
  show V0 m c _ = _
  after_results
  rfl
theorem V_v (c : Dev nD) : (V m c main_v9 : S32x6x1024x256.Idx → EReal) = transpose S32x6x1024x256 [0, 2, 1, 3] (args m c).v transposes_S32x1024x6x256_S32x6x1024x256_0_2_1_3 := by
  show V0 m c _ = _
  after_results
  rfl
theorem V_dO (c : Dev nD) : (V m c main_v10 : S32x6x1024x256.Idx → EReal) = transpose S32x6x1024x256 [0, 2, 1, 3] (args m c).dO transposes_S32x1024x6x256_S32x6x1024x256_0_2_1_3 := by
  show V0 m c _ = _
  after_results
  rfl
theorem V_dos (c : Dev nD) : (V m c main_v11 : S6x32x1024.Idx → EReal) = transpose S6x32x1024 [2, 0, 1] (args m c).dos transposes_S32x1024x6_S6x32x1024_2_0_1 := by
  show V0 m c _ = _
  after_results
  rfl

/-- Which block of its array each window holds at each grid point. -/
theorem idx_facts : ∀ t : Fin cfg0.N,
    win0_0.index t = ![0, 0, 0] ∧ win0_1.index t = ![0, 0, 0] ∧ win0_2.index t = ![0, 0, 0]
    ∧ win0_3.index t = ![(grid0.coords t 0).val, (grid0.coords t 1).val, 0, 0]
    ∧ win0_4.index t = ![(grid0.coords t 0).val, (grid0.coords t 1).val, 0, 0]
    ∧ win0_5.index t = ![(grid0.coords t 0).val, (grid0.coords t 1).val, 0, 0]
    ∧ win0_6.index t = ![(grid0.coords t 0).val, (grid0.coords t 1).val, 0, 0]
    ∧ win0_7.index t = ![0, 0, 0]
    ∧ win0_8.index t = ![(grid0.coords t 0).val, (grid0.coords t 1).val, 0, 0]
    ∧ win0_9.index t = ![(grid0.coords t 0).val, (grid0.coords t 1).val, 0, 0]
    ∧ win0_10.index t = ![(grid0.coords t 0).val, (grid0.coords t 1).val, 0, 0] :=
  (by decide +kernel : ∀ t : Fin grid0.N, _)

/-- What the windows of the four eight-bit arrays hold: the rows of the point's batch entry and head. -/
theorem blk_q (c : Dev nD) (t : Fin cfg0.N) (i : Fin 1024) (j : Fin 128) :
    (iblk m c 3 t : S1x1x1024x128.Idx → EReal) (ix4 0 0 i j) = (args m c).q (ix4 (grid0.coords t 0) i (grid0.coords t 1) j) := by
  have hi := (fun h => h.2.2.2.1) (idx_facts t)
  unfold iblk
  rw [View.read_apply]
  show (V m c main_v7 : S32x6x1024x128.Idx → EReal) _ = _
  rw [V_q]
  refine transpose_apply _ _ _ _ _ fun a => ?_
  match a with
  | ⟨0, _⟩ => show (grid0.coords t 0).val = win0_3.index t 0 * 1 + 1 * 0; rw [hi]; show _ = (grid0.coords t 0).val * 1 + 1 * 0; omega
  | ⟨1, _⟩ => show (grid0.coords t 1).val = win0_3.index t 1 * 1 + 1 * 0; rw [hi]; show _ = (grid0.coords t 1).val * 1 + 1 * 0; omega
  | ⟨2, _⟩ => show i.val = win0_3.index t 2 * 1024 + 1 * i.val; rw [hi]; show _ = 0 * 1024 + 1 * i.val; omega
  | ⟨3, _⟩ => show j.val = win0_3.index t 3 * 128 + 1 * j.val; rw [hi]; show _ = 0 * 128 + 1 * j.val; omega

theorem blk_k (c : Dev nD) (t : Fin cfg0.N) (i : Fin 1024) (j : Fin 128) :
    (iblk m c 4 t : S1x1x1024x128.Idx → EReal) (ix4 0 0 i j) = (args m c).k (ix4 (grid0.coords t 0) i (grid0.coords t 1) j) := by
  have hi := (fun h => h.2.2.2.2.1) (idx_facts t)
  unfold iblk
  rw [View.read_apply]
  show (V m c main_v8 : S32x6x1024x128.Idx → EReal) _ = _
  rw [V_k]
  refine transpose_apply _ _ _ _ _ fun a => ?_
  match a with
  | ⟨0, _⟩ => show (grid0.coords t 0).val = win0_4.index t 0 * 1 + 1 * 0; rw [hi]; show _ = (grid0.coords t 0).val * 1 + 1 * 0; omega
  | ⟨1, _⟩ => show (grid0.coords t 1).val = win0_4.index t 1 * 1 + 1 * 0; rw [hi]; show _ = (grid0.coords t 1).val * 1 + 1 * 0; omega
  | ⟨2, _⟩ => show i.val = win0_4.index t 2 * 1024 + 1 * i.val; rw [hi]; show _ = 0 * 1024 + 1 * i.val; omega
  | ⟨3, _⟩ => show j.val = win0_4.index t 3 * 128 + 1 * j.val; rw [hi]; show _ = 0 * 128 + 1 * j.val; omega

theorem blk_v (c : Dev nD) (t : Fin cfg0.N) (i : Fin 1024) (j : Fin 256) :
    (iblk m c 5 t : S1x1x1024x256.Idx → EReal) (ix4 0 0 i j) = (args m c).v (ix4 (grid0.coords t 0) i (grid0.coords t 1) j) := by
  have hi := (fun h => h.2.2.2.2.2.1) (idx_facts t)
  unfold iblk
  rw [View.read_apply]
  show (V m c main_v9 : S32x6x1024x256.Idx → EReal) _ = _
  rw [V_v]
  refine transpose_apply _ _ _ _ _ fun a => ?_
  match a with
  | ⟨0, _⟩ => show (grid0.coords t 0).val = win0_5.index t 0 * 1 + 1 * 0; rw [hi]; show _ = (grid0.coords t 0).val * 1 + 1 * 0; omega
  | ⟨1, _⟩ => show (grid0.coords t 1).val = win0_5.index t 1 * 1 + 1 * 0; rw [hi]; show _ = (grid0.coords t 1).val * 1 + 1 * 0; omega
  | ⟨2, _⟩ => show i.val = win0_5.index t 2 * 1024 + 1 * i.val; rw [hi]; show _ = 0 * 1024 + 1 * i.val; omega
  | ⟨3, _⟩ => show j.val = win0_5.index t 3 * 256 + 1 * j.val; rw [hi]; show _ = 0 * 256 + 1 * j.val; omega

theorem blk_dO (c : Dev nD) (t : Fin cfg0.N) (i : Fin 1024) (j : Fin 256) :
    (iblk m c 6 t : S1x1x1024x256.Idx → EReal) (ix4 0 0 i j) = (args m c).dO (ix4 (grid0.coords t 0) i (grid0.coords t 1) j) := by
  have hi := (fun h => h.2.2.2.2.2.2.1) (idx_facts t)
  unfold iblk
  rw [View.read_apply]
  show (V m c main_v10 : S32x6x1024x256.Idx → EReal) _ = _
  rw [V_dO]
  refine transpose_apply _ _ _ _ _ fun a => ?_
  match a with
  | ⟨0, _⟩ => show (grid0.coords t 0).val = win0_6.index t 0 * 1 + 1 * 0; rw [hi]; show _ = (grid0.coords t 0).val * 1 + 1 * 0; omega
  | ⟨1, _⟩ => show (grid0.coords t 1).val = win0_6.index t 1 * 1 + 1 * 0; rw [hi]; show _ = (grid0.coords t 1).val * 1 + 1 * 0; omega
  | ⟨2, _⟩ => show i.val = win0_6.index t 2 * 1024 + 1 * i.val; rw [hi]; show _ = 0 * 1024 + 1 * i.val; omega
  | ⟨3, _⟩ => show j.val = win0_6.index t 3 * 256 + 1 * j.val; rw [hi]; show _ = 0 * 256 + 1 * j.val; omega

/-- What the windows of the scales hold: the whole arrays, heads first. -/
theorem blk_qs (c : Dev nD) (t : Fin cfg0.N) (h : Fin 6) (n : Fin 16) (b : Fin 32) :
    (iblk m c 0 t : S6x16x32.Idx → EReal) (ix3 h n b) = (args m c).qs (ix3 b n h) := by
  have hi := (fun h => h.1) (idx_facts t)
  unfold iblk
  rw [View.read_apply]
  show (V m c main_v4 : S6x16x32.Idx → EReal) _ = _
  rw [V_qs]
  refine transpose_apply _ _ _ _ _ fun a => ?_
  match a with
  | ⟨0, _⟩ => show h.val = win0_0.index t 0 * 6 + 1 * h.val; rw [hi]; show _ = 0 * 6 + 1 * h.val; omega
  | ⟨1, _⟩ => show n.val = win0_0.index t 1 * 16 + 1 * n.val; rw [hi]; show _ = 0 * 16 + 1 * n.val; omega
  | ⟨2, _⟩ => show b.val = win0_0.index t 2 * 32 + 1 * b.val; rw [hi]; show _ = 0 * 32 + 1 * b.val; omega

theorem blk_ks (c : Dev nD) (t : Fin cfg0.N) (h : Fin 6) (n : Fin 16) (b : Fin 32) :
    (iblk m c 1 t : S6x16x32.Idx → EReal) (ix3 h n b) = (args m c).ks (ix3 b n h) := by
  have hi := (fun h => h.2.1) (idx_facts t)
  unfold iblk
  rw [View.read_apply]
  show (V m c main_v5 : S6x16x32.Idx → EReal) _ = _
  rw [V_ks]
  refine transpose_apply _ _ _ _ _ fun a => ?_
  match a with
  | ⟨0, _⟩ => show h.val = win0_1.index t 0 * 6 + 1 * h.val; rw [hi]; show _ = 0 * 6 + 1 * h.val; omega
  | ⟨1, _⟩ => show n.val = win0_1.index t 1 * 16 + 1 * n.val; rw [hi]; show _ = 0 * 16 + 1 * n.val; omega
  | ⟨2, _⟩ => show b.val = win0_1.index t 2 * 32 + 1 * b.val; rw [hi]; show _ = 0 * 32 + 1 * b.val; omega

theorem blk_vs (c : Dev nD) (t : Fin cfg0.N) (h : Fin 6) (n : Fin 16) (b : Fin 32) :
    (iblk m c 2 t : S6x16x32.Idx → EReal) (ix3 h n b) = (args m c).vs (ix3 b n h) := by
  have hi := (fun h => h.2.2.1) (idx_facts t)
  unfold iblk
  rw [View.read_apply]
  show (V m c main_v6 : S6x16x32.Idx → EReal) _ = _
  rw [V_vs]
  refine transpose_apply _ _ _ _ _ fun a => ?_
  match a with
  | ⟨0, _⟩ => show h.val = win0_2.index t 0 * 6 + 1 * h.val; rw [hi]; show _ = 0 * 6 + 1 * h.val; omega
  | ⟨1, _⟩ => show n.val = win0_2.index t 1 * 16 + 1 * n.val; rw [hi]; show _ = 0 * 16 + 1 * n.val; omega
  | ⟨2, _⟩ => show b.val = win0_2.index t 2 * 32 + 1 * b.val; rw [hi]; show _ = 0 * 32 + 1 * b.val; omega

theorem blk_dos (c : Dev nD) (t : Fin cfg0.N) (h : Fin 6) (b : Fin 32) (r : Fin 1024) :
    (iblk m c 7 t : S6x32x1024.Idx → EReal) (ix3 h b r) = (args m c).dos (ix3 b r h) := by
  have hi := (fun h => h.2.2.2.2.2.2.2.1) (idx_facts t)
  unfold iblk
  rw [View.read_apply]
  show (V m c main_v11 : S6x32x1024.Idx → EReal) _ = _
  rw [V_dos]
  refine transpose_apply _ _ _ _ _ fun a => ?_
  match a with
  | ⟨0, _⟩ => show h.val = win0_7.index t 0 * 6 + 1 * h.val; rw [hi]; show _ = 0 * 6 + 1 * h.val; omega
  | ⟨1, _⟩ => show b.val = win0_7.index t 1 * 32 + 1 * b.val; rw [hi]; show _ = 0 * 32 + 1 * b.val; omega
  | ⟨2, _⟩ => show r.val = win0_7.index t 2 * 1024 + 1 * r.val; rw [hi]; show _ = 0 * 1024 + 1 * r.val; omega

/-- Every point's windows hold the numbers of its batch entry and head. -/
theorem inputs (c : Dev nD) (R : (args m c).Real) (t : Fin cfg0.N) :
    Inputs (grid0.coords t 1) (grid0.coords t 0) (iblk m c 0 t) (iblk m c 1 t) (iblk m c 2 t) (iblk m c 3 t) (iblk m c 4 t)
      (iblk m c 5 t) (iblk m c 6 t) (iblk m c 7 t) ((args m c).data (grid0.coords t 0) (grid0.coords t 1)) where
  qs n := (blk_qs m c t _ n _).trans (R.qs_eq _ _ n)
  ks n := (blk_ks m c t _ n _).trans (R.ks_eq _ _ n)
  vs n := (blk_vs m c t _ n _).trans (R.vs_eq _ _ n)
  q i j := (blk_q m c t i j).trans (R.q_eq _ _ i j)
  k i j := (blk_k m c t i j).trans (R.k_eq _ _ i j)
  v i j := (blk_v m c t i j).trans (R.v_eq _ _ i j)
  dO i j := (blk_dO m c t i j).trans (R.dO_eq _ _ i j)
  dos r := (blk_dos m c t _ _ r).trans (R.dos_eq _ _ r)
  c := scaleWord_real

end Cert.KernelIdeal
end
end
-- ==== Proof.Arrays.lean ====
/- The kernel's three results, element by element. -/
module

public import proofs.«01_k».proof.Proof.Windows
public import Idealize.ShloMosaic.Lib.Pipeline.ValueKit

@[expose] public section

set_option synthInstance.maxSize 4096
set_option maxRecDepth 16384

noncomputable section

namespace Cert.KernelIdeal

open Idealize.ShloMosaic Idealize.ShloMosaic.TcCoe Idealize.ShloMosaic.ValueIdx Gen LinAttn Idealize.SL.Sem

variable (m : (ℓ : Loc nD τ sig) → Buf (Elt Ideal) ℓ)

theorem dq_covers : (cfg0.win 8).Covers := by decide +kernel

/-- Where an element of the block of `dq` lies in the array. -/
theorem dq_place (t : Fin cfg0.N) (y : S1x1x1024x128.Idx) (z : S32x6x1024x128.Idx) (hz : z = ((cfg0.win 8).blk t).view.emb y) :
    z (0 : Fin 4) = grid0.coords t 0 ∧ z (1 : Fin 4) = grid0.coords t 1 ∧ (z (2 : Fin 4)).val = (y (2 : Fin 4)).val
      ∧ (z (3 : Fin 4)).val = (y (3 : Fin 4)).val := by
  have hi := (fun h => h.2.2.2.2.2.2.2.2.1) (idx_facts t)
  subst hz
  refine ⟨Fin.ext ?_, Fin.ext ?_, ?_, ?_⟩
  · show win0_8.index t 0 * 1 + 1 * (y (0 : Fin 4)).val = _
    rw [hi]; show (grid0.coords t 0).val * 1 + 1 * (y (0 : Fin 4)).val = _
    have : (y (0 : Fin 4)).val < 1 := (y (0 : Fin 4)).isLt
    omega
  · show win0_8.index t 1 * 1 + 1 * (y (1 : Fin 4)).val = _
    rw [hi]; show (grid0.coords t 1).val * 1 + 1 * (y (1 : Fin 4)).val = _
    have : (y (1 : Fin 4)).val < 1 := (y (1 : Fin 4)).isLt
    omega
  · show win0_8.index t 2 * 1024 + 1 * (y (2 : Fin 4)).val = _
    rw [hi]; show 0 * 1024 + 1 * (y (2 : Fin 4)).val = _
    omega
  · show win0_8.index t 3 * 128 + 1 * (y (3 : Fin 4)).val = _
    rw [hi]; show 0 * 128 + 1 * (y (3 : Fin 4)).val = _
    omega

/-- What a point leaves in its block of `dq`. -/
theorem dq_point (c : Dev nD) (R : (args m c).Real) (t : Fin cfg0.N) (y : S1x1x1024x128.Idx) :
    ((dats m 0 c).after 8 t : S1x1x1024x128.Idx → EReal) y
      = ((((args m c).data (grid0.coords t 0) (grid0.coords t 1)).dq (y (2 : Fin 4)).val (y (3 : Fin 4)).val : ℝ) : EReal) := by
  rw [after0_8]
  have h := dq_out_real c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _)
    (iblk m c 0 t) (iblk m c 1 t) (iblk m c 2 t) (iblk m c 3 t) (iblk m c 4 t) (iblk m c 5 t) (iblk m c 6 t) (iblk m c 7 t)
    ((args m c).data (grid0.coords t 0) (grid0.coords t 1)) (inputs m c R t) y
  unfold outsAt0
  dsimp only
  rw [h]

/-- The array the kernel writes `dq` to, batch entries first, then heads, then rows. -/
theorem dq_array (c : Dev nD) (R : (args m c).Real) (i : S32x6x1024x128.Idx) :
    ((dats m 0 c).arrAt 8 cfg0.N : S32x6x1024x128.Idx → EReal) i
      = ((((args m c).data (i (0 : Fin 4)) (i (1 : Fin 4))).dq (i (2 : Fin 4)).val (i (3 : Fin 4)).val : ℝ) : EReal) := by
  refine Pipeline.Dat.arrAt_forall_of_covers (dats m 0 c) 8 (fun (i : S32x6x1024x128.Idx) (v : EReal) =>
    v = ((((args m c).data (i (0 : Fin 4)) (i (1 : Fin 4))).dq (i (2 : Fin 4)).val (i (3 : Fin 4)).val : ℝ) : EReal)) dq_covers ?_ i
  intro t _ y
  obtain ⟨e0, e1, e2, e3⟩ := dq_place t y _ rfl
  refine Eq.trans (b := ((dats m 0 c).after 8 t : S1x1x1024x128.Idx → EReal) y) rfl ?_
  rw [dq_point m c R t y, e0, e1, e2, e3]

theorem dk_covers : (cfg0.win 9).Covers := by decide +kernel

/-- Where an element of the block of `dk` lies in the array. -/
theorem dk_place (t : Fin cfg0.N) (y : S1x1x1024x128.Idx) (z : S32x6x1024x128.Idx) (hz : z = ((cfg0.win 9).blk t).view.emb y) :
    z (0 : Fin 4) = grid0.coords t 0 ∧ z (1 : Fin 4) = grid0.coords t 1 ∧ (z (2 : Fin 4)).val = (y (2 : Fin 4)).val
      ∧ (z (3 : Fin 4)).val = (y (3 : Fin 4)).val := by
  have hi := (fun h => h.2.2.2.2.2.2.2.2.2.1) (idx_facts t)
  subst hz
  refine ⟨Fin.ext ?_, Fin.ext ?_, ?_, ?_⟩
  · show win0_9.index t 0 * 1 + 1 * (y (0 : Fin 4)).val = _
    rw [hi]; show (grid0.coords t 0).val * 1 + 1 * (y (0 : Fin 4)).val = _
    have : (y (0 : Fin 4)).val < 1 := (y (0 : Fin 4)).isLt
    omega
  · show win0_9.index t 1 * 1 + 1 * (y (1 : Fin 4)).val = _
    rw [hi]; show (grid0.coords t 1).val * 1 + 1 * (y (1 : Fin 4)).val = _
    have : (y (1 : Fin 4)).val < 1 := (y (1 : Fin 4)).isLt
    omega
  · show win0_9.index t 2 * 1024 + 1 * (y (2 : Fin 4)).val = _
    rw [hi]; show 0 * 1024 + 1 * (y (2 : Fin 4)).val = _
    omega
  · show win0_9.index t 3 * 128 + 1 * (y (3 : Fin 4)).val = _
    rw [hi]; show 0 * 128 + 1 * (y (3 : Fin 4)).val = _
    omega

/-- What a point leaves in its block of `dk`. -/
theorem dk_point (c : Dev nD) (R : (args m c).Real) (t : Fin cfg0.N) (y : S1x1x1024x128.Idx) :
    ((dats m 0 c).after 9 t : S1x1x1024x128.Idx → EReal) y
      = ((((args m c).data (grid0.coords t 0) (grid0.coords t 1)).dk (y (2 : Fin 4)).val (y (3 : Fin 4)).val : ℝ) : EReal) := by
  rw [after0_9]
  have h := dk_out_real c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _)
    (iblk m c 0 t) (iblk m c 1 t) (iblk m c 2 t) (iblk m c 3 t) (iblk m c 4 t) (iblk m c 5 t) (iblk m c 6 t) (iblk m c 7 t)
    ((args m c).data (grid0.coords t 0) (grid0.coords t 1)) (inputs m c R t) y
  unfold outsAt0
  dsimp only
  rw [h]

/-- The array the kernel writes `dk` to, batch entries first, then heads, then rows. -/
theorem dk_array (c : Dev nD) (R : (args m c).Real) (i : S32x6x1024x128.Idx) :
    ((dats m 0 c).arrAt 9 cfg0.N : S32x6x1024x128.Idx → EReal) i
      = ((((args m c).data (i (0 : Fin 4)) (i (1 : Fin 4))).dk (i (2 : Fin 4)).val (i (3 : Fin 4)).val : ℝ) : EReal) := by
  refine Pipeline.Dat.arrAt_forall_of_covers (dats m 0 c) 9 (fun (i : S32x6x1024x128.Idx) (v : EReal) =>
    v = ((((args m c).data (i (0 : Fin 4)) (i (1 : Fin 4))).dk (i (2 : Fin 4)).val (i (3 : Fin 4)).val : ℝ) : EReal)) dk_covers ?_ i
  intro t _ y
  obtain ⟨e0, e1, e2, e3⟩ := dk_place t y _ rfl
  refine Eq.trans (b := ((dats m 0 c).after 9 t : S1x1x1024x128.Idx → EReal) y) rfl ?_
  rw [dk_point m c R t y, e0, e1, e2, e3]

theorem dv_covers : (cfg0.win 10).Covers := by decide +kernel

/-- Where an element of the block of `dv` lies in the array. -/
theorem dv_place (t : Fin cfg0.N) (y : S1x1x1024x256.Idx) (z : S32x6x1024x256.Idx) (hz : z = ((cfg0.win 10).blk t).view.emb y) :
    z (0 : Fin 4) = grid0.coords t 0 ∧ z (1 : Fin 4) = grid0.coords t 1 ∧ (z (2 : Fin 4)).val = (y (2 : Fin 4)).val
      ∧ (z (3 : Fin 4)).val = (y (3 : Fin 4)).val := by
  have hi := (fun h => h.2.2.2.2.2.2.2.2.2.2) (idx_facts t)
  subst hz
  refine ⟨Fin.ext ?_, Fin.ext ?_, ?_, ?_⟩
  · show win0_10.index t 0 * 1 + 1 * (y (0 : Fin 4)).val = _
    rw [hi]; show (grid0.coords t 0).val * 1 + 1 * (y (0 : Fin 4)).val = _
    have : (y (0 : Fin 4)).val < 1 := (y (0 : Fin 4)).isLt
    omega
  · show win0_10.index t 1 * 1 + 1 * (y (1 : Fin 4)).val = _
    rw [hi]; show (grid0.coords t 1).val * 1 + 1 * (y (1 : Fin 4)).val = _
    have : (y (1 : Fin 4)).val < 1 := (y (1 : Fin 4)).isLt
    omega
  · show win0_10.index t 2 * 1024 + 1 * (y (2 : Fin 4)).val = _
    rw [hi]; show 0 * 1024 + 1 * (y (2 : Fin 4)).val = _
    omega
  · show win0_10.index t 3 * 256 + 1 * (y (3 : Fin 4)).val = _
    rw [hi]; show 0 * 256 + 1 * (y (3 : Fin 4)).val = _
    omega

/-- What a point leaves in its block of `dv`. -/
theorem dv_point (c : Dev nD) (R : (args m c).Real) (t : Fin cfg0.N) (y : S1x1x1024x256.Idx) :
    ((dats m 0 c).after 10 t : S1x1x1024x256.Idx → EReal) y
      = ((((args m c).data (grid0.coords t 0) (grid0.coords t 1)).dv (y (2 : Fin 4)).val (y (3 : Fin 4)).val : ℝ) : EReal) := by
  rw [after0_10]
  have h := dv_out_real c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _)
    (iblk m c 0 t) (iblk m c 1 t) (iblk m c 2 t) (iblk m c 3 t) (iblk m c 4 t) (iblk m c 5 t) (iblk m c 6 t) (iblk m c 7 t)
    ((args m c).data (grid0.coords t 0) (grid0.coords t 1)) (inputs m c R t) y
  unfold outsAt0
  dsimp only
  rw [h]

/-- The array the kernel writes `dv` to, batch entries first, then heads, then rows. -/
theorem dv_array (c : Dev nD) (R : (args m c).Real) (i : S32x6x1024x256.Idx) :
    ((dats m 0 c).arrAt 10 cfg0.N : S32x6x1024x256.Idx → EReal) i
      = ((((args m c).data (i (0 : Fin 4)) (i (1 : Fin 4))).dv (i (2 : Fin 4)).val (i (3 : Fin 4)).val : ℝ) : EReal) := by
  refine Pipeline.Dat.arrAt_forall_of_covers (dats m 0 c) 10 (fun (i : S32x6x1024x256.Idx) (v : EReal) =>
    v = ((((args m c).data (i (0 : Fin 4)) (i (1 : Fin 4))).dv (i (2 : Fin 4)).val (i (3 : Fin 4)).val : ℝ) : EReal)) dv_covers ?_ i
  intro t _ y
  obtain ⟨e0, e1, e2, e3⟩ := dv_place t y _ rfl
  refine Eq.trans (b := ((dats m 0 c).after 10 t : S1x1x1024x256.Idx → EReal) y) rfl ?_
  rw [dv_point m c R t y, e0, e1, e2, e3]

end Cert.KernelIdeal
end
end
-- ==== Proof.KernelRun.lean ====
/- The kernel's run: what it returns, and that it keeps its arguments. -/
module

public import proofs.«01_k».proof.Proof.Arrays

@[expose] public section

set_option synthInstance.maxSize 4096
set_option maxRecDepth 16384

noncomputable section

namespace Cert.KernelIdeal

open Idealize.ShloMosaic Idealize.ShloMosaic.TcCoe Idealize.ShloMosaic.ValueIdx Gen LinAttn Idealize.SL.Sem

variable (m : (ℓ : Loc nD τ sig) → Buf (Elt Ideal) ℓ)

/-- What the host returns as `dq`: the kernel's array with rows before heads. -/
theorem dq_tail (c : Dev nD) :
    (Pipeline.afterTail₀ cfgs (dats m) 0 (V0 m) [hostOps1] c main_v13 : S32x1024x6x128.Idx → EReal)
      = transpose S32x1024x6x128 [0, 2, 1, 3] ((dats m 0 c).arrAt 8 cfg0.N : S32x6x1024x128.Idx → EReal)
          transposes_S32x6x1024x128_S32x1024x6x128_0_2_1_3 := by
  unfold Pipeline.afterTail₀
  show StableHlo.after hostOps1 _ (Proc.devRef .tc main_v13) = _
  after_results
  exact congrArg (fun x => transpose S32x1024x6x128 [0, 2, 1, 3] x transposes_S32x6x1024x128_S32x1024x6x128_0_2_1_3)
    (Pipeline.withArrays_arr spec0 launch0.win.arr_inj c (V0 m c) (fun w => (dats m 0 c).arrAt w cfg0.N) 8)

theorem dq_returned (c : Dev nD) (R : (args m c).Real) :
    (Pipeline.afterTail₀ cfgs (dats m) 0 (V0 m) [hostOps1] c main_v13 : S32x1024x6x128.Idx → EReal) = (args m c).dqOut := by
  rw [dq_tail]
  funext i
  refine (transpose_apply _ _ _ i (@ValueIdx.ix4 32 6 1024 128 (i (0 : Fin 4)) (i (2 : Fin 4)) (i (1 : Fin 4)) (i (3 : Fin 4))) fun a => ?_).trans ?_
  · match a with
    | ⟨0, _⟩ => rfl
    | ⟨1, _⟩ => rfl
    | ⟨2, _⟩ => rfl
    | ⟨3, _⟩ => rfl
  · exact dq_array m c R _

/-- What the host returns as `dk`: the kernel's array with rows before heads. -/
theorem dk_tail (c : Dev nD) :
    (Pipeline.afterTail₀ cfgs (dats m) 0 (V0 m) [hostOps1] c main_v14 : S32x1024x6x128.Idx → EReal)
      = transpose S32x1024x6x128 [0, 2, 1, 3] ((dats m 0 c).arrAt 9 cfg0.N : S32x6x1024x128.Idx → EReal)
          transposes_S32x6x1024x128_S32x1024x6x128_0_2_1_3 := by
  unfold Pipeline.afterTail₀
  show StableHlo.after hostOps1 _ (Proc.devRef .tc main_v14) = _
  after_results
  exact congrArg (fun x => transpose S32x1024x6x128 [0, 2, 1, 3] x transposes_S32x6x1024x128_S32x1024x6x128_0_2_1_3)
    (Pipeline.withArrays_arr spec0 launch0.win.arr_inj c (V0 m c) (fun w => (dats m 0 c).arrAt w cfg0.N) 9)

theorem dk_returned (c : Dev nD) (R : (args m c).Real) :
    (Pipeline.afterTail₀ cfgs (dats m) 0 (V0 m) [hostOps1] c main_v14 : S32x1024x6x128.Idx → EReal) = (args m c).dkOut := by
  rw [dk_tail]
  funext i
  refine (transpose_apply _ _ _ i (@ValueIdx.ix4 32 6 1024 128 (i (0 : Fin 4)) (i (2 : Fin 4)) (i (1 : Fin 4)) (i (3 : Fin 4))) fun a => ?_).trans ?_
  · match a with
    | ⟨0, _⟩ => rfl
    | ⟨1, _⟩ => rfl
    | ⟨2, _⟩ => rfl
    | ⟨3, _⟩ => rfl
  · exact dk_array m c R _

/-- What the host returns as `dv`: the kernel's array with rows before heads. -/
theorem dv_tail (c : Dev nD) :
    (Pipeline.afterTail₀ cfgs (dats m) 0 (V0 m) [hostOps1] c main_v15 : S32x1024x6x256.Idx → EReal)
      = transpose S32x1024x6x256 [0, 2, 1, 3] ((dats m 0 c).arrAt 10 cfg0.N : S32x6x1024x256.Idx → EReal)
          transposes_S32x6x1024x256_S32x1024x6x256_0_2_1_3 := by
  unfold Pipeline.afterTail₀
  show StableHlo.after hostOps1 _ (Proc.devRef .tc main_v15) = _
  after_results
  exact congrArg (fun x => transpose S32x1024x6x256 [0, 2, 1, 3] x transposes_S32x6x1024x256_S32x1024x6x256_0_2_1_3)
    (Pipeline.withArrays_arr spec0 launch0.win.arr_inj c (V0 m c) (fun w => (dats m 0 c).arrAt w cfg0.N) 10)

theorem dv_returned (c : Dev nD) (R : (args m c).Real) :
    (Pipeline.afterTail₀ cfgs (dats m) 0 (V0 m) [hostOps1] c main_v15 : S32x1024x6x256.Idx → EReal) = (args m c).dvOut := by
  rw [dv_tail]
  funext i
  refine (transpose_apply _ _ _ i (@ValueIdx.ix4 32 6 1024 256 (i (0 : Fin 4)) (i (2 : Fin 4)) (i (1 : Fin 4)) (i (3 : Fin 4))) fun a => ?_).trans ?_
  · match a with
    | ⟨0, _⟩ => rfl
    | ⟨1, _⟩ => rfl
    | ⟨2, _⟩ => rfl
    | ⟨3, _⟩ => rfl
  · exact dv_array m c R _

/-- The kernel returns the three arrays of the mathematics and keeps its arguments. -/
theorem run (g : Dev nD → PrngReg) (R : ∀ c, (args m c).Real) :
    θ_run defs (onTc (τ := τ) (main (F := Ideal))) ⟨m, fun _ => 0, g⟩ (fun r => ∀ c : Dev nD,
      (r.2.mem ((c : Thread nD τ).loc main_v13) : S32x1024x6x128.Idx → EReal) = (args m c).dqOut
      ∧ (r.2.mem ((c : Thread nD τ).loc main_v14) : S32x1024x6x128.Idx → EReal) = (args m c).dkOut
      ∧ (r.2.mem ((c : Thread nD τ).loc main_v15) : S32x1024x6x256.Idx → EReal) = (args m c).dvOut) :=
  (θ_run defs _ _).mono (fun r h c =>
    ⟨((h c).2 main_v13 (by decide)).trans (dq_returned m c (R c)), ((h c).2 main_v14 (by decide)).trans (dk_returned m c (R c)),
      ((h c).2 main_v15 (by decide)).trans (dv_returned m c (R c))⟩) (run_main m g)

end Cert.KernelIdeal
end
end
-- ==== Proof.RefChunks.lean ====
/- The reference's chunked arrays, element by element: the scaled rows, the chunk products and the masked matrices. -/
module

public import proofs.«01_k».proof.Proof.Args
public import proofs.«01_k».proof.Proof.Rows
public import proofs.«01_k».proof.Proof.Masks
public import proofs.«01_k».proof.Proof.Gen.ReferenceIdeal.Read

@[expose] public section

noncomputable section

namespace LinAttn.Args.Real

open Idealize.ShloMosaic

variable {A : Args} (R : A.Real)
include R

theorem q_at (i : (⟨4, ![32, 1024, 6, 128]⟩ : Shape).Idx) :
    A.q i = (((A.data (i (0 : Fin 4)) (i (2 : Fin 4))).q (i (1 : Fin 4)).val (i (3 : Fin 4)).val : ℝ) : EReal) :=
  (congrArg A.q (show i = @ValueIdx.ix4 32 1024 6 128 (i (0 : Fin 4)) (i (1 : Fin 4)) (i (2 : Fin 4)) (i (3 : Fin 4)) from funext fun a => match a with
    | ⟨0, _⟩ => rfl
    | ⟨1, _⟩ => rfl
    | ⟨2, _⟩ => rfl
    | ⟨3, _⟩ => rfl)).trans (R.q_eq (i (0 : Fin 4)) (i (2 : Fin 4)) (i (1 : Fin 4)) (i (3 : Fin 4)))

theorem k_at (i : (⟨4, ![32, 1024, 6, 128]⟩ : Shape).Idx) :
    A.k i = (((A.data (i (0 : Fin 4)) (i (2 : Fin 4))).k (i (1 : Fin 4)).val (i (3 : Fin 4)).val : ℝ) : EReal) :=
  (congrArg A.k (show i = @ValueIdx.ix4 32 1024 6 128 (i (0 : Fin 4)) (i (1 : Fin 4)) (i (2 : Fin 4)) (i (3 : Fin 4)) from funext fun a => match a with
    | ⟨0, _⟩ => rfl
    | ⟨1, _⟩ => rfl
    | ⟨2, _⟩ => rfl
    | ⟨3, _⟩ => rfl)).trans (R.k_eq (i (0 : Fin 4)) (i (2 : Fin 4)) (i (1 : Fin 4)) (i (3 : Fin 4)))

theorem v_at (i : (⟨4, ![32, 1024, 6, 256]⟩ : Shape).Idx) :
    A.v i = (((A.data (i (0 : Fin 4)) (i (2 : Fin 4))).v (i (1 : Fin 4)).val (i (3 : Fin 4)).val : ℝ) : EReal) :=
  (congrArg A.v (show i = @ValueIdx.ix4 32 1024 6 256 (i (0 : Fin 4)) (i (1 : Fin 4)) (i (2 : Fin 4)) (i (3 : Fin 4)) from funext fun a => match a with
    | ⟨0, _⟩ => rfl
    | ⟨1, _⟩ => rfl
    | ⟨2, _⟩ => rfl
    | ⟨3, _⟩ => rfl)).trans (R.v_eq (i (0 : Fin 4)) (i (2 : Fin 4)) (i (1 : Fin 4)) (i (3 : Fin 4)))

theorem dO_at (i : (⟨4, ![32, 1024, 6, 256]⟩ : Shape).Idx) :
    A.dO i = (((A.data (i (0 : Fin 4)) (i (2 : Fin 4))).dO (i (1 : Fin 4)).val (i (3 : Fin 4)).val : ℝ) : EReal) :=
  (congrArg A.dO (show i = @ValueIdx.ix4 32 1024 6 256 (i (0 : Fin 4)) (i (1 : Fin 4)) (i (2 : Fin 4)) (i (3 : Fin 4)) from funext fun a => match a with
    | ⟨0, _⟩ => rfl
    | ⟨1, _⟩ => rfl
    | ⟨2, _⟩ => rfl
    | ⟨3, _⟩ => rfl)).trans (R.dO_eq (i (0 : Fin 4)) (i (2 : Fin 4)) (i (1 : Fin 4)) (i (3 : Fin 4)))

theorem qs_at (i : (⟨3, ![32, 16, 6]⟩ : Shape).Idx) :
    A.qs i = (((A.data (i (0 : Fin 3)) (i (2 : Fin 3))).qs (i (1 : Fin 3)).val : ℝ) : EReal) :=
  (congrArg A.qs (show i = @ValueIdx.ix3 32 16 6 (i (0 : Fin 3)) (i (1 : Fin 3)) (i (2 : Fin 3)) from funext fun a => match a with
    | ⟨0, _⟩ => rfl
    | ⟨1, _⟩ => rfl
    | ⟨2, _⟩ => rfl)).trans (R.qs_eq (i (0 : Fin 3)) (i (2 : Fin 3)) (i (1 : Fin 3)))

theorem ks_at (i : (⟨3, ![32, 16, 6]⟩ : Shape).Idx) :
    A.ks i = (((A.data (i (0 : Fin 3)) (i (2 : Fin 3))).ks (i (1 : Fin 3)).val : ℝ) : EReal) :=
  (congrArg A.ks (show i = @ValueIdx.ix3 32 16 6 (i (0 : Fin 3)) (i (1 : Fin 3)) (i (2 : Fin 3)) from funext fun a => match a with
    | ⟨0, _⟩ => rfl
    | ⟨1, _⟩ => rfl
    | ⟨2, _⟩ => rfl)).trans (R.ks_eq (i (0 : Fin 3)) (i (2 : Fin 3)) (i (1 : Fin 3)))

theorem vs_at (i : (⟨3, ![32, 16, 6]⟩ : Shape).Idx) :
    A.vs i = (((A.data (i (0 : Fin 3)) (i (2 : Fin 3))).vs (i (1 : Fin 3)).val : ℝ) : EReal) :=
  (congrArg A.vs (show i = @ValueIdx.ix3 32 16 6 (i (0 : Fin 3)) (i (1 : Fin 3)) (i (2 : Fin 3)) from funext fun a => match a with
    | ⟨0, _⟩ => rfl
    | ⟨1, _⟩ => rfl
    | ⟨2, _⟩ => rfl)).trans (R.vs_eq (i (0 : Fin 3)) (i (2 : Fin 3)) (i (1 : Fin 3)))

theorem dos_at (i : (⟨3, ![32, 1024, 6]⟩ : Shape).Idx) :
    A.dos i = (((A.data (i (0 : Fin 3)) (i (2 : Fin 3))).dos (i (1 : Fin 3)).val : ℝ) : EReal) :=
  (congrArg A.dos (show i = @ValueIdx.ix3 32 1024 6 (i (0 : Fin 3)) (i (1 : Fin 3)) (i (2 : Fin 3)) from funext fun a => match a with
    | ⟨0, _⟩ => rfl
    | ⟨1, _⟩ => rfl
    | ⟨2, _⟩ => rfl)).trans (R.dos_eq (i (0 : Fin 3)) (i (2 : Fin 3)) (i (1 : Fin 3)))

end LinAttn.Args.Real

namespace Cert.ReferenceIdeal

open Idealize.ShloMosaic Idealize.ShloMosaic.ValueIdx LinAttn Read

variable {A : Args} (R : A.Real)

/-- The numbers of the batch entry and head of an index whose axes are batch, chunk, row, head, column. -/
abbrev rowData (A : Args) {n : ℕ} (i : (⟨5, ![32, 16, 64, 6, n]⟩ : Shape).Idx) : Data := A.data (i (0 : Fin 5)) (i (3 : Fin 5))

/-- The numbers of the batch entry and head of an index whose axes are batch, chunk, head and two more. -/
abbrev headData (A : Args) {n k : ℕ} (i : (⟨5, ![32, 16, 6, n, k]⟩ : Shape).Idx) : Data := A.data (i (0 : Fin 5)) (i (2 : Fin 5))

theorem row_lt {n : ℕ} (i : (⟨5, ![32, 16, 64, 6, n]⟩ : Shape).Idx) : 64 * (i (1 : Fin 5)).val + (i (2 : Fin 5)).val < 1024 := by
  have h1 : (i (1 : Fin 5)).val < 16 := (i (1 : Fin 5)).isLt
  have h2 : (i (2 : Fin 5)).val < 64 := (i (2 : Fin 5)).isLt
  omega

include R

theorem q_chunked (i : S32x16x64x6x128.Idx) : val_main_v5 (F := Ideal) A.q i
    = (((rowData A i).q (64 * (i (1 : Fin 5)).val + (i (2 : Fin 5)).val) (i (4 : Fin 5)).val : ℝ) : EReal) := by
  unfold val_main_v5
  rw [shapeCast_apply A.q _ i (@ValueIdx.ix4 32 1024 6 128 (i (0 : Fin 5)) ⟨_, row_lt i⟩ (i (3 : Fin 5)) (i (4 : Fin 5))) (by
    rw [Shape.rowMajor_val_four, Shape.rowMajor_val_five]
    show (((i (0 : Fin 5)).val * 1024 + (64 * (i (1 : Fin 5)).val + (i (2 : Fin 5)).val)) * 6 + (i (3 : Fin 5)).val) * 128 + (i (4 : Fin 5)).val
      = ((((i (0 : Fin 5)).val * 16 + (i (1 : Fin 5)).val) * 64 + (i (2 : Fin 5)).val) * 6 + (i (3 : Fin 5)).val) * 128 + (i (4 : Fin 5)).val
    omega)]
  exact R.q_at _

theorem k_chunked (i : S32x16x64x6x128.Idx) : val_main_v6 (F := Ideal) A.k i
    = (((rowData A i).k (64 * (i (1 : Fin 5)).val + (i (2 : Fin 5)).val) (i (4 : Fin 5)).val : ℝ) : EReal) := by
  unfold val_main_v6
  rw [shapeCast_apply A.k _ i (@ValueIdx.ix4 32 1024 6 128 (i (0 : Fin 5)) ⟨_, row_lt i⟩ (i (3 : Fin 5)) (i (4 : Fin 5))) (by
    rw [Shape.rowMajor_val_four, Shape.rowMajor_val_five]
    show (((i (0 : Fin 5)).val * 1024 + (64 * (i (1 : Fin 5)).val + (i (2 : Fin 5)).val)) * 6 + (i (3 : Fin 5)).val) * 128 + (i (4 : Fin 5)).val
      = ((((i (0 : Fin 5)).val * 16 + (i (1 : Fin 5)).val) * 64 + (i (2 : Fin 5)).val) * 6 + (i (3 : Fin 5)).val) * 128 + (i (4 : Fin 5)).val
    omega)]
  exact R.k_at _

theorem v_chunked (i : S32x16x64x6x256.Idx) : val_main_v7 (F := Ideal) A.v i
    = (((rowData A i).v (64 * (i (1 : Fin 5)).val + (i (2 : Fin 5)).val) (i (4 : Fin 5)).val : ℝ) : EReal) := by
  unfold val_main_v7
  rw [shapeCast_apply A.v _ i (@ValueIdx.ix4 32 1024 6 256 (i (0 : Fin 5)) ⟨_, row_lt i⟩ (i (3 : Fin 5)) (i (4 : Fin 5))) (by
    rw [Shape.rowMajor_val_four, Shape.rowMajor_val_five]
    show (((i (0 : Fin 5)).val * 1024 + (64 * (i (1 : Fin 5)).val + (i (2 : Fin 5)).val)) * 6 + (i (3 : Fin 5)).val) * 256 + (i (4 : Fin 5)).val
      = ((((i (0 : Fin 5)).val * 16 + (i (1 : Fin 5)).val) * 64 + (i (2 : Fin 5)).val) * 6 + (i (3 : Fin 5)).val) * 256 + (i (4 : Fin 5)).val
    omega)]
  exact R.v_at _

theorem dO_chunked (i : S32x16x64x6x256.Idx) : val_main_v8 (F := Ideal) A.dO i
    = (((rowData A i).dO (64 * (i (1 : Fin 5)).val + (i (2 : Fin 5)).val) (i (4 : Fin 5)).val : ℝ) : EReal) := by
  unfold val_main_v8
  rw [shapeCast_apply A.dO _ i (@ValueIdx.ix4 32 1024 6 256 (i (0 : Fin 5)) ⟨_, row_lt i⟩ (i (3 : Fin 5)) (i (4 : Fin 5))) (by
    rw [Shape.rowMajor_val_four, Shape.rowMajor_val_five]
    show (((i (0 : Fin 5)).val * 1024 + (64 * (i (1 : Fin 5)).val + (i (2 : Fin 5)).val)) * 6 + (i (3 : Fin 5)).val) * 256 + (i (4 : Fin 5)).val
      = ((((i (0 : Fin 5)).val * 16 + (i (1 : Fin 5)).val) * 64 + (i (2 : Fin 5)).val) * 6 + (i (3 : Fin 5)).val) * 256 + (i (4 : Fin 5)).val
    omega)]
  exact R.dO_at _

theorem dos_chunked (i : S32x16x64x6.Idx) : val_main_v9 (F := Ideal) A.dos i
    = (((A.data (i (0 : Fin 4)) (i (3 : Fin 4))).dos (64 * (i (1 : Fin 4)).val + (i (2 : Fin 4)).val) : ℝ) : EReal) := by
  have h1 : (i (1 : Fin 4)).val < 16 := (i (1 : Fin 4)).isLt
  have h2 : (i (2 : Fin 4)).val < 64 := (i (2 : Fin 4)).isLt
  unfold val_main_v9
  rw [shapeCast_apply A.dos _ i (@ValueIdx.ix3 32 1024 6 (i (0 : Fin 4)) ⟨64 * (i (1 : Fin 4)).val + (i (2 : Fin 4)).val, by omega⟩ (i (3 : Fin 4))) (by
    rw [Shape.rowMajor_val_three, Shape.rowMajor_val_four]
    show ((i (0 : Fin 4)).val * 1024 + (64 * (i (1 : Fin 4)).val + (i (2 : Fin 4)).val)) * 6 + (i (3 : Fin 4)).val
      = (((i (0 : Fin 4)).val * 16 + (i (1 : Fin 4)).val) * 64 + (i (2 : Fin 4)).val) * 6 + (i (3 : Fin 4)).val
    omega)]
  exact R.dos_at _

/-- `q` under its scales. -/
theorem q_scaled (i : S32x16x64x6x128.Idx) : val_main_v13 (F := Ideal) A.qs A.q i
    = (((rowData A i).q (64 * (i (1 : Fin 5)).val + (i (2 : Fin 5)).val) (i (4 : Fin 5)).val * (rowData A i).qs (i (1 : Fin 5)).val : ℝ) : EReal) := by
  rw [val_main_v13_apply, q_chunked R, val_main_v12_apply, val_main_v11_apply, val_main_v10_apply, R.qs_at, EReal.coe_mul]
  rfl

/-- `k` under its scales. -/
theorem k_scaled (i : S32x16x64x6x128.Idx) : val_main_v17 (F := Ideal) A.ks A.k i
    = (((rowData A i).k (64 * (i (1 : Fin 5)).val + (i (2 : Fin 5)).val) (i (4 : Fin 5)).val * (rowData A i).ks (i (1 : Fin 5)).val : ℝ) : EReal) := by
  rw [val_main_v17_apply, k_chunked R, val_main_v16_apply, val_main_v15_apply, val_main_v14_apply, R.ks_at, EReal.coe_mul]
  rfl

/-- `v` under its scales. -/
theorem v_scaled (i : S32x16x64x6x256.Idx) : val_main_v21 (F := Ideal) A.vs A.v i
    = (((rowData A i).v (64 * (i (1 : Fin 5)).val + (i (2 : Fin 5)).val) (i (4 : Fin 5)).val * (rowData A i).vs (i (1 : Fin 5)).val : ℝ) : EReal) := by
  rw [val_main_v21_apply, v_chunked R, val_main_v20_apply, val_main_v19_apply, val_main_v18_apply, R.vs_at, EReal.coe_mul]
  rfl

/-- `dO` under its scales. -/
theorem dO_scaled (i : S32x16x64x6x256.Idx) : val_main_v25 (F := Ideal) A.dos A.dO i
    = (((rowData A i).dO (64 * (i (1 : Fin 5)).val + (i (2 : Fin 5)).val) (i (4 : Fin 5)).val
        * (rowData A i).dos (64 * (i (1 : Fin 5)).val + (i (2 : Fin 5)).val) : ℝ) : EReal) := by
  rw [val_main_v25_apply, dO_chunked R, val_main_v24_apply, val_main_v23_apply, val_main_v22_apply, dos_chunked R, EReal.coe_mul]
  rfl

open Finset

/-- What chunk `n` adds to the state. -/
theorem kv_chunk (i : S32x16x6x128x256.Idx) : val_main_v30 (F := Ideal) A.ks A.vs A.k A.v i
    = (((∑ r ∈ range 64, (headData A i).k (64 * (i (1 : Fin 5)).val + r) (i (3 : Fin 5)).val
          * (headData A i).v (64 * (i (1 : Fin 5)).val + r) (i (4 : Fin 5)).val)
        * ((headData A i).ks (i (1 : Fin 5)).val * (headData A i).vs (i (1 : Fin 5)).val) : ℝ) : EReal) := by
  rw [val_main_v30_apply, val_main_v26_apply, val_main_v29_apply, val_main_v28_apply, val_main_v27_apply, R.ks_at, R.vs_at, EReal.coe_mul, EReal.coe_mul,
    coe_sum, sum_range]
  refine congrArg₂ (fun a b : EReal => a * b) (sum_congr rfl fun r _ => ?_) rfl
  exact (congrArg₂ (fun a b : EReal => a * b) (k_chunked R _) (v_chunked R _)).trans (EReal.coe_mul _ _).symm

/-- What chunk `n` adds to the gradient of the state. -/
theorem qdO_chunk (i : S32x16x6x128x256.Idx) : val_main_v31 (F := Ideal) A.qs A.dos A.q A.dO i
    = ((∑ r ∈ range 64, ((headData A i).q (64 * (i (1 : Fin 5)).val + r) (i (3 : Fin 5)).val * (headData A i).qs (i (1 : Fin 5)).val)
          * ((headData A i).dO (64 * (i (1 : Fin 5)).val + r) (i (4 : Fin 5)).val * (headData A i).dos (64 * (i (1 : Fin 5)).val + r)) : ℝ) : EReal) := by
  rw [val_main_v31_apply, coe_sum, sum_range]
  refine sum_congr rfl fun r _ => ?_
  exact (congrArg₂ (fun a b : EReal => a * b) (q_scaled R _) (dO_scaled R _)).trans (EReal.coe_mul _ _).symm

omit R in
/-- The mask: rows at or after the column. -/
theorem mask_at (i : S64x64.Idx) : val_main_v45 (F := Ideal) i = if (i (1 : Fin 2)).val ≤ (i (0 : Fin 2)).val then 1#1 else 0#1 := by
  have h0 : (i (0 : Fin 2)).val < 64 := (i (0 : Fin 2)).isLt
  have h1 : (i (1 : Fin 2)).val < 64 := (i (1 : Fin 2)).isLt
  rw [val_main_v45_apply, val_main_call2_v4_apply, val_main_call2_v2_apply, val_main_call2_v0_apply, val_main_call2_v1_apply,
    val_main_call2_c_apply, val_main_call2_v3_apply, val_main_v44_apply, val_main_c_apply, val_main_call2_v5_apply, val_main_call2_c_0_apply]
  generalize (i (0 : Fin 2)).val = a at *
  generalize (i (1 : Fin 2)).val = b at *
  have e : IntOp.addi (BitVec.ofNat 32 a) 0#32 = BitVec.ofNat 32 a := BitVec.add_zero _
  rw [e, KernelIdeal.cmpi_sge a b (by omega) (by omega)]
  by_cases h : b ≤ a
  · rw [if_pos h]; rfl
  · rw [if_neg h]; rfl

/-- The masked inner products. -/
theorem A_masked (i : S32x16x6x64x64.Idx) : val_main_v55 (F := Ideal) A.vs A.dos A.v A.dO i
    = (((headData A i).cA (i (1 : Fin 5)).val (i (3 : Fin 5)).val (i (4 : Fin 5)).val : ℝ) : EReal) := by
  rw [val_main_v55_apply, val_main_v54_apply, val_main_call3_v1_apply, mask_at, val_main_v53_apply, val_main_v50_apply, val_main_v46_apply,
    val_main_v49_apply, val_main_v48_apply, val_main_v47_apply, dos_chunked R, val_main_v52_apply, val_main_v51_apply, R.vs_at]
  unfold Data.cA Data.D
  by_cases h : (i (4 : Fin 5)).val ≤ (i (3 : Fin 5)).val
  · rw [if_pos h, if_pos h, EReal.coe_mul, EReal.coe_mul, coe_sum, sum_range]
    refine congrArg₂ (fun a b : EReal => a * b) (congrArg₂ (fun a b : EReal => a * b) (sum_congr rfl fun r _ => ?_) rfl) rfl
    exact (congrArg₂ (fun a b : EReal => a * b) (dO_chunked R _) (v_chunked R _)).trans (EReal.coe_mul _ _).symm
  · rw [if_neg h, if_neg h, val_main_call3_v2_apply, val_main_call3_v0_apply, val_main_cst_1_apply]
    exact Ideal.ofBits_zero_f32

/-- The masked scores. -/
theorem P_masked (i : S32x16x6x64x64.Idx) : val_main_v62 (F := Ideal) A.qs A.ks A.q A.k i
    = (((headData A i).cP (i (1 : Fin 5)).val (i (3 : Fin 5)).val (i (4 : Fin 5)).val : ℝ) : EReal) := by
  rw [val_main_v62_apply, val_main_v61_apply, val_main_call4_v1_apply, mask_at, val_main_v60_apply, val_main_v56_apply,
    val_main_v59_apply, val_main_v58_apply, val_main_v57_apply, R.qs_at, R.ks_at]
  unfold Data.cP
  by_cases h : (i (4 : Fin 5)).val ≤ (i (3 : Fin 5)).val
  · rw [if_pos h, if_pos h, EReal.coe_mul, EReal.coe_mul, coe_sum, sum_range]
    refine congrArg₂ (fun a b : EReal => a * b) (sum_congr rfl fun r _ => ?_) rfl
    exact (congrArg₂ (fun a b : EReal => a * b) (q_chunked R _) (k_chunked R _)).trans (EReal.coe_mul _ _).symm
  · rw [if_neg h, if_neg h, val_main_call4_v2_apply, val_main_call4_v0_apply, val_main_cst_2_apply]
    exact Ideal.ofBits_zero_f32

end Cert.ReferenceIdeal
end
end
-- ==== Proof.Windowed.lean ====
/- A running sum along the second of five axes, as a window sum of length 16 over a padded array. -/
module

public import proofs.«01_k».proof.Proof.Rows
public import Idealize.ShloMosaic.PureOps.Ideal.Laws
public import Idealize.ShloMosaic.Lib.ValueIdx

@[expose] public section

noncomputable section

namespace LinAttn

open Idealize.ShloMosaic Finset

theorem foldl_add_eq_sum {n : ℕ} (g : Fin n → EReal) : (List.finRange n).foldl (fun r i => r + g i) 0 = ∑ i : Fin n, g i := by
  rw [Fin.sum_univ_def, List.sum_eq_foldl, List.foldl_map]

/-- The window's positions, counted along its one long axis. -/
def windowEquiv : (⟨5, ![1, 16, 1, 1, 1]⟩ : Shape).Idx ≃ Fin 16 where
  toFun w := w (1 : Fin 5)
  invFun k := fun a => match a with
    | ⟨0, _⟩ => (0 : Fin 1)
    | ⟨1, _⟩ => k
    | ⟨2, _⟩ => (0 : Fin 1)
    | ⟨3, _⟩ => (0 : Fin 1)
    | ⟨4, _⟩ => (0 : Fin 1)
  left_inv w := funext fun a => match a with
    | ⟨0, _⟩ => Subsingleton.elim (α := Fin 1) _ _
    | ⟨1, _⟩ => rfl
    | ⟨2, _⟩ => Subsingleton.elim (α := Fin 1) _ _
    | ⟨3, _⟩ => Subsingleton.elim (α := Fin 1) _ _
    | ⟨4, _⟩ => Subsingleton.elim (α := Fin 1) _ _
  right_inv _ := rfl

abbrev Chunked : Shape := ⟨5, ![32, 16, 6, 128, 256]⟩

/-- A window sum with `l` elements of padding before and `u` after, over an array of real numbers. -/
theorem window_sum (l u : ℕ) (x : Chunked.Idx → EReal) (f : Fin 32 → ℕ → Fin 6 → Fin 128 → Fin 256 → ℝ)
    (hx : ∀ i, x i = ((f (i (0 : Fin 5)) (i (1 : Fin 5)).val (i (2 : Fin 5)) (i (3 : Fin 5)) (i (4 : Fin 5)) : ℝ) : EReal))
    (h : Chunked.ReduceWindows ![1, 16, 1, 1, 1] ![1, 1, 1, 1, 1] ![0, l, 0, 0, 0] ![0, u, 0, 0, 0] Chunked) (j : Chunked.Idx) :
    Ideal.hostReduceWindowAdd ![1, 16, 1, 1, 1] ![1, 1, 1, 1, 1] ![0, l, 0, 0, 0] ![0, u, 0, 0, 0] h x 0 j
      = ((∑ w ∈ range 16, if l ≤ (j (1 : Fin 5)).val + w ∧ (j (1 : Fin 5)).val + w - l < 16 then
          f (j (0 : Fin 5)) ((j (1 : Fin 5)).val + w - l) (j (2 : Fin 5)) (j (3 : Fin 5)) (j (4 : Fin 5)) else 0 : ℝ) : EReal) := by
  unfold Ideal.hostReduceWindowAdd Host.reduceWindow
  refine (foldl_add_eq_sum _).trans ?_
  rw [← Equiv.sum_comp (⟨5, ![1, 16, 1, 1, 1]⟩ : Shape).rowMajor, ← Equiv.sum_comp windowEquiv.symm, sum_range, coe_sum]
  refine sum_congr rfl fun w _ => ?_
  have hw : ∀ a, ((⟨5, ![1, 16, 1, 1, 1]⟩ : Shape).rowMajor.symm ((⟨5, ![1, 16, 1, 1, 1]⟩ : Shape).rowMajor (windowEquiv.symm w)) a)
      = windowEquiv.symm w a := fun a => by rw [Equiv.symm_apply_apply]
  simp only [hw]
  have hj0 : (j (0 : Fin 5)).val < 32 := (j (0 : Fin 5)).isLt
  have hj2 : (j (2 : Fin 5)).val < 6 := (j (2 : Fin 5)).isLt
  have hj3 : (j (3 : Fin 5)).val < 128 := (j (3 : Fin 5)).isLt
  have hj4 : (j (4 : Fin 5)).val < 256 := (j (4 : Fin 5)).isLt
  by_cases hc : l ≤ (j (1 : Fin 5)).val + w.val ∧ (j (1 : Fin 5)).val + w.val - l < 16
  · rw [if_pos hc, dif_pos]
    · rw [hx]
      have e : ∀ (a b : Fin 32) (m m' : ℕ) (c c' : Fin 6) (d d' : Fin 128) (e e' : Fin 256), a = b → m = m' → c = c' → d = d' → e = e' →
          ((f a m c d e : ℝ) : EReal) = ((f b m' c' d' e' : ℝ) : EReal) := by rintro _ _ _ _ _ _ _ _ _ _ rfl rfl rfl rfl rfl; rfl
      refine e _ _ _ _ _ _ _ _ _ _ (Fin.ext ?_) ?_ (Fin.ext ?_) (Fin.ext ?_) (Fin.ext ?_)
      · show (j (0 : Fin 5)).val * 1 + 0 - 0 = (j (0 : Fin 5)).val; omega
      · show (j (1 : Fin 5)).val * 1 + w.val - l = _; omega
      · show (j (2 : Fin 5)).val * 1 + 0 - 0 = (j (2 : Fin 5)).val; omega
      · show (j (3 : Fin 5)).val * 1 + 0 - 0 = (j (3 : Fin 5)).val; omega
      · show (j (4 : Fin 5)).val * 1 + 0 - 0 = (j (4 : Fin 5)).val; omega
    · intro a
      match a with
      | ⟨0, _⟩ => show 0 ≤ (j (0 : Fin 5)).val * 1 + 0 ∧ (j (0 : Fin 5)).val * 1 + 0 - 0 < 32; omega
      | ⟨1, _⟩ => show l ≤ (j (1 : Fin 5)).val * 1 + w.val ∧ (j (1 : Fin 5)).val * 1 + w.val - l < 16; omega
      | ⟨2, _⟩ => show 0 ≤ (j (2 : Fin 5)).val * 1 + 0 ∧ (j (2 : Fin 5)).val * 1 + 0 - 0 < 6; omega
      | ⟨3, _⟩ => show 0 ≤ (j (3 : Fin 5)).val * 1 + 0 ∧ (j (3 : Fin 5)).val * 1 + 0 - 0 < 128; omega
      | ⟨4, _⟩ => show 0 ≤ (j (4 : Fin 5)).val * 1 + 0 ∧ (j (4 : Fin 5)).val * 1 + 0 - 0 < 256; omega
  · rw [if_neg hc, dif_neg]
    · rfl
    · intro hall
      have h1 : l ≤ (j (1 : Fin 5)).val * 1 + w.val ∧ (j (1 : Fin 5)).val * 1 + w.val - l < 16 := hall (1 : Fin 5)
      omega

theorem prefix_sum (f : ℕ → ℝ) (n : ℕ) (hn : n < 16) :
    (∑ w ∈ range 16, if 15 ≤ n + w ∧ n + w - 15 < 16 then f (n + w - 15) else 0) = ∑ m ∈ range (n + 1), f m := by
  interval_cases n <;> simp [sum_range_succ]

theorem suffix_sum (f : ℕ → ℝ) (n : ℕ) (hn : n < 16) :
    (∑ w ∈ range 16, if 0 ≤ n + w ∧ n + w - 0 < 16 then f (n + w - 0) else 0) = ∑ m ∈ Ico n 16, f m := by
  rw [sum_Ico_eq_sum_range]
  interval_cases n <;> simp [sum_range_succ]

end LinAttn
end
end
-- ==== Proof.RefScan.lean ====
/- The reference's running sums over chunks: the state before each chunk and its gradient after each chunk. -/
module

public import proofs.«01_k».proof.Proof.RefChunks
public import proofs.«01_k».proof.Proof.Windowed

@[expose] public section

noncomputable section

namespace Cert.ReferenceIdeal

open Idealize.ShloMosaic Idealize.ShloMosaic.ValueIdx LinAttn Read Finset

variable {A : Args} (R : A.Real)

/-- What chunk `m` adds to the state. -/
def addKV (A : Args) (b : Fin 32) (m : ℕ) (h : Fin 6) (d : Fin 128) (e : Fin 256) : ℝ :=
  (∑ r ∈ range 64, (A.data b h).k (64 * m + r) d.val * (A.data b h).v (64 * m + r) e.val) * ((A.data b h).ks m * (A.data b h).vs m)

/-- What chunk `m` adds to the gradient of the state. -/
def addQdO (A : Args) (b : Fin 32) (m : ℕ) (h : Fin 6) (d : Fin 128) (e : Fin 256) : ℝ :=
  ∑ r ∈ range 64, ((A.data b h).q (64 * m + r) d.val * (A.data b h).qs m) * ((A.data b h).dO (64 * m + r) e.val * (A.data b h).dos (64 * m + r))

theorem zero_word (i : S_.Idx) : val_main_call0_call0_v0 (F := Ideal) i = 0 := by
  rw [val_main_call0_call0_v0_apply, val_main_call0_call0_cst_apply]; exact Ideal.ofBits_zero_f32

theorem zero_word1 (i : S_.Idx) : val_main_call1_v0 (F := Ideal) i = 0 := by
  rw [val_main_call1_v0_apply, val_main_call1_cst_apply]; exact Ideal.ofBits_zero_f32

include R

/-- The running sum from the first chunk. -/
theorem state_upto (i : S32x16x6x128x256.Idx) : val_main_v32 (F := Ideal) A.ks A.vs A.k A.v i
    = ((∑ m ∈ range ((i (1 : Fin 5)).val + 1), addKV A (i (0 : Fin 5)) m (i (2 : Fin 5)) (i (3 : Fin 5)) (i (4 : Fin 5)) : ℝ) : EReal) := by
  have h1 : (i (1 : Fin 5)).val < 16 := (i (1 : Fin 5)).isLt
  unfold val_main_v32 Host.reduceWindowAdd
  rw [zero_word]
  refine (window_sum 15 0 _ (addKV A) (fun i => kv_chunk R i) _ i).trans ?_
  rw [prefix_sum (fun m => addKV A (i (0 : Fin 5)) m (i (2 : Fin 5)) (i (3 : Fin 5)) (i (4 : Fin 5))) _ h1]

/-- The running sum from the last chunk. -/
theorem grad_from (i : S32x16x6x128x256.Idx) : val_main_v38 (F := Ideal) A.qs A.dos A.q A.dO i
    = ((∑ m ∈ Ico (i (1 : Fin 5)).val 16, addQdO A (i (0 : Fin 5)) m (i (2 : Fin 5)) (i (3 : Fin 5)) (i (4 : Fin 5)) : ℝ) : EReal) := by
  have h1 : (i (1 : Fin 5)).val < 16 := (i (1 : Fin 5)).isLt
  unfold val_main_v38 Host.reduceWindowAdd
  rw [zero_word1]
  refine (window_sum 0 15 _ (addQdO A) (fun i => qdO_chunk R i) _ i).trans ?_
  rw [suffix_sum (fun m => addQdO A (i (0 : Fin 5)) m (i (2 : Fin 5)) (i (3 : Fin 5)) (i (4 : Fin 5))) _ h1]

/-- The state before each chunk. -/
theorem state_before (i : S32x16x6x128x256.Idx) : val_main_v37 (F := Ideal) A.ks A.vs A.k A.v i
    = (((headData A i).cstate (i (1 : Fin 5)).val (i (3 : Fin 5)).val (i (4 : Fin 5)).val : ℝ) : EReal) := by
  have h1 : (i (1 : Fin 5)).val < 16 := (i (1 : Fin 5)).isLt
  rw [val_main_v37_apply]
  show val_main_v36 (F := Ideal) A.ks A.vs A.k A.v i = _
  unfold val_main_v36
  by_cases h : (i (1 : Fin 5)).val = 0
  · refine (concatenate_pair_apply_left (t := S32x16x6x128x256) (s₁ := S32x1x6x128x256) (s₂ := S32x15x6x128x256) (1 : Fin 5) _ _ _ i rfl
      (fun a => match a with | ⟨0, _⟩ => i (0 : Fin 5) | ⟨1, _⟩ => (0 : Fin 1) | ⟨2, _⟩ => i (2 : Fin 5) | ⟨3, _⟩ => i (3 : Fin 5) | ⟨4, _⟩ => i (4 : Fin 5))
      fun b => match b with
        | ⟨0, _⟩ => rfl
        | ⟨1, _⟩ => h.symm
        | ⟨2, _⟩ => rfl
        | ⟨3, _⟩ => rfl
        | ⟨4, _⟩ => rfl).trans ?_
    rw [val_main_v34_apply, val_main_cst_apply]
    unfold Data.cstate
    rw [h, Ico_self, sum_empty]
    exact Ideal.ofBits_zero_f32
  · refine (concatenate_pair_apply_right (t := S32x16x6x128x256) (s₁ := S32x1x6x128x256) (s₂ := S32x15x6x128x256) (1 : Fin 5) _ _ _ i rfl rfl
      (fun a => match a with | ⟨0, _⟩ => i (0 : Fin 5) | ⟨1, _⟩ => (⟨(i (1 : Fin 5)).val - 1, by omega⟩ : Fin 15) | ⟨2, _⟩ => i (2 : Fin 5) | ⟨3, _⟩ => i (3 : Fin 5) | ⟨4, _⟩ => i (4 : Fin 5))
      (fun b hb => match b, hb with
        | ⟨0, _⟩, _ => rfl
        | ⟨1, _⟩, hb => absurd rfl hb
        | ⟨2, _⟩, _ => rfl
        | ⟨3, _⟩, _ => rfl
        | ⟨4, _⟩, _ => rfl) (show (i (1 : Fin 5)).val - 1 + 1 = (i (1 : Fin 5)).val by omega)).trans ?_
    rw [val_main_v35_apply, state_upto R]
    unfold Data.cstate
    rw [← range_eq_Ico]
    show ((∑ m ∈ range ((i (1 : Fin 5)).val - 1 + 1), addKV A (i (0 : Fin 5)) m (i (2 : Fin 5)) (i (3 : Fin 5)) (i (4 : Fin 5)) : ℝ) : EReal) = _
    rw [Nat.sub_add_cancel (by omega)]
    rfl

/-- The gradient of the state after each chunk. -/
theorem grad_after (i : S32x16x6x128x256.Idx) : val_main_v43 (F := Ideal) A.qs A.dos A.q A.dO i
    = (((headData A i).cgrad (i (1 : Fin 5)).val (i (3 : Fin 5)).val (i (4 : Fin 5)).val : ℝ) : EReal) := by
  have h1 : (i (1 : Fin 5)).val < 16 := (i (1 : Fin 5)).isLt
  rw [val_main_v43_apply]
  show val_main_v42 (F := Ideal) A.qs A.dos A.q A.dO i = _
  unfold val_main_v42
  by_cases h : (i (1 : Fin 5)).val = 15
  · refine (concatenate_pair_apply_right (t := S32x16x6x128x256) (s₁ := S32x15x6x128x256) (s₂ := S32x1x6x128x256) (1 : Fin 5) _ _ _ i rfl rfl
      (fun a => match a with | ⟨0, _⟩ => i (0 : Fin 5) | ⟨1, _⟩ => (0 : Fin 1) | ⟨2, _⟩ => i (2 : Fin 5) | ⟨3, _⟩ => i (3 : Fin 5) | ⟨4, _⟩ => i (4 : Fin 5))
      (fun b hb => match b, hb with
        | ⟨0, _⟩, _ => rfl
        | ⟨1, _⟩, hb => absurd rfl hb
        | ⟨2, _⟩, _ => rfl
        | ⟨3, _⟩, _ => rfl
        | ⟨4, _⟩, _ => rfl) (show 0 + 15 = (i (1 : Fin 5)).val by omega)).trans ?_
    rw [val_main_v41_apply, val_main_cst_0_apply]
    unfold Data.cgrad
    rw [h, Ico_self, sum_empty]
    exact Ideal.ofBits_zero_f32
  · refine (concatenate_pair_apply_left (t := S32x16x6x128x256) (s₁ := S32x15x6x128x256) (s₂ := S32x1x6x128x256) (1 : Fin 5) _ _ _ i rfl
      (fun a => match a with | ⟨0, _⟩ => i (0 : Fin 5) | ⟨1, _⟩ => (⟨(i (1 : Fin 5)).val, by omega⟩ : Fin 15) | ⟨2, _⟩ => i (2 : Fin 5) | ⟨3, _⟩ => i (3 : Fin 5) | ⟨4, _⟩ => i (4 : Fin 5))
      fun b => match b with
        | ⟨0, _⟩ => rfl
        | ⟨1, _⟩ => rfl
        | ⟨2, _⟩ => rfl
        | ⟨3, _⟩ => rfl
        | ⟨4, _⟩ => rfl).trans ?_
    rw [val_main_v39_apply, grad_from R]
    unfold Data.cgrad
    have e : ∀ a b : ℕ, a = b → ((∑ m ∈ Ico a 16, addQdO A (i (0 : Fin 5)) m (i (2 : Fin 5)) (i (3 : Fin 5)) (i (4 : Fin 5)) : ℝ) : EReal)
      = ((∑ m ∈ Ico b 16, addQdO A (i (0 : Fin 5)) m (i (2 : Fin 5)) (i (3 : Fin 5)) (i (4 : Fin 5)) : ℝ) : EReal) := by rintro _ _ rfl; rfl
    exact e _ _ (by show 1 + (i (1 : Fin 5)).val = _; omega)

end Cert.ReferenceIdeal
end
end
-- ==== Proof.RefOut.lean ====
/- The reference's three results, element by element. -/
module

public import proofs.«01_k».proof.Proof.RefScan

@[expose] public section

noncomputable section

namespace Cert.ReferenceIdeal

open Idealize.ShloMosaic Idealize.ShloMosaic.ValueIdx LinAttn Read Finset

variable {A : Args} (R : A.Real)

/-- A product of two real numbers read off a product of two extended reals. -/
theorem mul_real {x y : EReal} {a b : ℝ} (hx : x = (a : EReal)) (hy : y = (b : EReal)) : x * y = ((a * b : ℝ) : EReal) := by
  rw [hx, hy, EReal.coe_mul]

theorem add_real {x y : EReal} {a b : ℝ} (hx : x = (a : EReal)) (hy : y = (b : EReal)) : x + y = ((a + b : ℝ) : EReal) := by
  rw [hx, hy, EReal.coe_add]

theorem sum_real {n : ℕ} {g : Fin n → EReal} {f : ℕ → ℝ} (h : ∀ k : Fin n, g k = ((f k.val : ℝ) : EReal)) :
    ∑ k : Fin n, g k = ((∑ k ∈ range n, f k : ℝ) : EReal) := by
  rw [coe_sum, sum_range]
  exact sum_congr rfl fun k _ => h k

include R

/-- The gradient of `q`, chunk by chunk. -/
theorem dq_chunked (i : S32x16x64x6x128.Idx) : val_main_v80 (F := Ideal) A.ks A.vs A.dos A.k A.v A.dO i
    = (((rowData A i).dq (64 * (i (1 : Fin 5)).val + (i (2 : Fin 5)).val) (i (4 : Fin 5)).val : ℝ) : EReal) := by
  have h1 : (i (1 : Fin 5)).val < 16 := (i (1 : Fin 5)).isLt
  have h2 : (i (2 : Fin 5)).val < 64 := (i (2 : Fin 5)).isLt
  rw [Data.dq_chunk _ _ _ _ h1 h2, val_main_v80_apply, val_main_v79_apply, val_main_v67_apply, val_main_v64_apply, val_main_v63_apply,
    val_main_v66_apply, val_main_v65_apply, val_main_v78_apply, val_main_cst_3_apply]
  refine mul_real (add_real (sum_real fun e => ?_) (sum_real fun j => ?_)) scaleWord_real
  · rw [mul_comm]
    exact mul_real (dO_scaled R _) (state_before R _)
  · rw [mul_comm]
    exact mul_real (A_masked R _) (k_scaled R _)

/-- The gradient of `k`, chunk by chunk. -/
theorem dk_chunked (i : S32x16x64x6x128.Idx) : val_main_v84 (F := Ideal) A.qs A.vs A.dos A.q A.v A.dO i
    = (((rowData A i).dk (64 * (i (1 : Fin 5)).val + (i (2 : Fin 5)).val) (i (4 : Fin 5)).val : ℝ) : EReal) := by
  have h1 : (i (1 : Fin 5)).val < 16 := (i (1 : Fin 5)).isLt
  have h2 : (i (2 : Fin 5)).val < 64 := (i (2 : Fin 5)).isLt
  rw [Data.dk_chunk _ _ _ _ h1 h2, val_main_v84_apply, val_main_v83_apply, val_main_v72_apply, val_main_v69_apply, val_main_v68_apply,
    val_main_v71_apply, val_main_v70_apply, val_main_v82_apply, val_main_cst_4_apply]
  refine mul_real (add_real (sum_real fun e => ?_) (sum_real fun j => ?_)) scaleWord_real
  · rw [mul_comm]
    exact mul_real (v_scaled R _) (grad_after R _)
  · rw [mul_comm]
    exact mul_real (A_masked R _) (q_scaled R _)

/-- The gradient of `v`, chunk by chunk. -/
theorem dv_chunked (i : S32x16x64x6x256.Idx) : val_main_v88 (F := Ideal) A.qs A.ks A.dos A.q A.k A.dO i
    = (((rowData A i).dv (64 * (i (1 : Fin 5)).val + (i (2 : Fin 5)).val) (i (4 : Fin 5)).val : ℝ) : EReal) := by
  have h1 : (i (1 : Fin 5)).val < 16 := (i (1 : Fin 5)).isLt
  have h2 : (i (2 : Fin 5)).val < 64 := (i (2 : Fin 5)).isLt
  rw [Data.dv_chunk _ _ _ _ h1 h2, val_main_v88_apply, val_main_v87_apply, val_main_v77_apply, val_main_v74_apply, val_main_v73_apply,
    val_main_v76_apply, val_main_v75_apply, val_main_v86_apply, val_main_cst_5_apply]
  refine mul_real (add_real (sum_real fun e => ?_) (sum_real fun j => ?_)) scaleWord_real
  · rw [mul_comm]
    exact mul_real (k_scaled R _) (grad_after R _)
  · rw [mul_comm]
    exact mul_real (P_masked R _) (dO_scaled R _)

/-- The reference's `dq`. -/
theorem dq_ref : (val_main_v81 (F := Ideal) A.ks A.vs A.dos A.k A.v A.dO : S32x1024x6x128.Idx → EReal) = A.dqOut := by
  funext i
  have ht : (i (1 : Fin 4)).val < 1024 := (i (1 : Fin 4)).isLt
  have e := shapeCast_apply (s := S32x16x64x6x128) (t := S32x1024x6x128) (val_main_v80 (F := Ideal) A.ks A.vs A.dos A.k A.v A.dO : S32x16x64x6x128.Idx → EReal)
    Gen.shapeCasts_S32x16x64x6x128_S32x1024x6x128 i (fun a => match a with
      | ⟨0, _⟩ => i (0 : Fin 4)
      | ⟨1, _⟩ => (⟨(i (1 : Fin 4)).val / 64, by omega⟩ : Fin 16)
      | ⟨2, _⟩ => (⟨(i (1 : Fin 4)).val % 64, by omega⟩ : Fin 64)
      | ⟨3, _⟩ => i (2 : Fin 4)
      | ⟨4, _⟩ => i (3 : Fin 4)) (by
    rw [Shape.rowMajor_val_four, Shape.rowMajor_val_five]
    show ((((i (0 : Fin 4)).val * 16 + (i (1 : Fin 4)).val / 64) * 64 + (i (1 : Fin 4)).val % 64) * 6 + (i (2 : Fin 4)).val) * 128 + (i (3 : Fin 4)).val
      = (((i (0 : Fin 4)).val * 1024 + (i (1 : Fin 4)).val) * 6 + (i (2 : Fin 4)).val) * 128 + (i (3 : Fin 4)).val
    omega)
  refine e.trans ((dq_chunked R _).trans ?_)
  show ((((A.data (i (0 : Fin 4)) (i (2 : Fin 4))).dq (64 * ((i (1 : Fin 4)).val / 64) + (i (1 : Fin 4)).val % 64) (i (3 : Fin 4)).val : ℝ)) : EReal) = _
  rw [Nat.div_add_mod]
  rfl

/-- The reference's `dk`. -/
theorem dk_ref : (val_main_v85 (F := Ideal) A.qs A.vs A.dos A.q A.v A.dO : S32x1024x6x128.Idx → EReal) = A.dkOut := by
  funext i
  have ht : (i (1 : Fin 4)).val < 1024 := (i (1 : Fin 4)).isLt
  have e := shapeCast_apply (s := S32x16x64x6x128) (t := S32x1024x6x128) (val_main_v84 (F := Ideal) A.qs A.vs A.dos A.q A.v A.dO : S32x16x64x6x128.Idx → EReal)
    Gen.shapeCasts_S32x16x64x6x128_S32x1024x6x128 i (fun a => match a with
      | ⟨0, _⟩ => i (0 : Fin 4)
      | ⟨1, _⟩ => (⟨(i (1 : Fin 4)).val / 64, by omega⟩ : Fin 16)
      | ⟨2, _⟩ => (⟨(i (1 : Fin 4)).val % 64, by omega⟩ : Fin 64)
      | ⟨3, _⟩ => i (2 : Fin 4)
      | ⟨4, _⟩ => i (3 : Fin 4)) (by
    rw [Shape.rowMajor_val_four, Shape.rowMajor_val_five]
    show ((((i (0 : Fin 4)).val * 16 + (i (1 : Fin 4)).val / 64) * 64 + (i (1 : Fin 4)).val % 64) * 6 + (i (2 : Fin 4)).val) * 128 + (i (3 : Fin 4)).val
      = (((i (0 : Fin 4)).val * 1024 + (i (1 : Fin 4)).val) * 6 + (i (2 : Fin 4)).val) * 128 + (i (3 : Fin 4)).val
    omega)
  refine e.trans ((dk_chunked R _).trans ?_)
  show ((((A.data (i (0 : Fin 4)) (i (2 : Fin 4))).dk (64 * ((i (1 : Fin 4)).val / 64) + (i (1 : Fin 4)).val % 64) (i (3 : Fin 4)).val : ℝ)) : EReal) = _
  rw [Nat.div_add_mod]
  rfl

/-- The reference's `dv`. -/
theorem dv_ref : (val_main_v89 (F := Ideal) A.qs A.ks A.dos A.q A.k A.dO : S32x1024x6x256.Idx → EReal) = A.dvOut := by
  funext i
  have ht : (i (1 : Fin 4)).val < 1024 := (i (1 : Fin 4)).isLt
  have e := shapeCast_apply (s := S32x16x64x6x256) (t := S32x1024x6x256) (val_main_v88 (F := Ideal) A.qs A.ks A.dos A.q A.k A.dO : S32x16x64x6x256.Idx → EReal)
    Gen.shapeCasts_S32x16x64x6x256_S32x1024x6x256 i (fun a => match a with
      | ⟨0, _⟩ => i (0 : Fin 4)
      | ⟨1, _⟩ => (⟨(i (1 : Fin 4)).val / 64, by omega⟩ : Fin 16)
      | ⟨2, _⟩ => (⟨(i (1 : Fin 4)).val % 64, by omega⟩ : Fin 64)
      | ⟨3, _⟩ => i (2 : Fin 4)
      | ⟨4, _⟩ => i (3 : Fin 4)) (by
    rw [Shape.rowMajor_val_four, Shape.rowMajor_val_five]
    show ((((i (0 : Fin 4)).val * 16 + (i (1 : Fin 4)).val / 64) * 64 + (i (1 : Fin 4)).val % 64) * 6 + (i (2 : Fin 4)).val) * 256 + (i (3 : Fin 4)).val
      = (((i (0 : Fin 4)).val * 1024 + (i (1 : Fin 4)).val) * 6 + (i (2 : Fin 4)).val) * 256 + (i (3 : Fin 4)).val
    omega)
  refine e.trans ((dv_chunked R _).trans ?_)
  show ((((A.data (i (0 : Fin 4)) (i (2 : Fin 4))).dv (64 * ((i (1 : Fin 4)).val / 64) + (i (1 : Fin 4)).val % 64) (i (3 : Fin 4)).val : ℝ)) : EReal) = _
  rw [Nat.div_add_mod]
  rfl

end Cert.ReferenceIdeal
end
end
-- ==== Proof.RefRun.lean ====
/- The reference's run: the widening of the eight-bit arrays, and the three results in terms of the arguments. -/
module

public import proofs.«01_k».proof.Proof.RefOut
public import proofs.«01_k».proof.Proof.Gen.ReferenceIdeal.Run
public import Idealize.ShloMosaic.Lib.Pipeline.ValueKit

@[expose] public section

set_option synthInstance.maxSize 4096
set_option maxRecDepth 16384

noncomputable section

namespace Cert.ReferenceIdeal

open Idealize.ShloMosaic Idealize.ShloMosaic.TcCoe Idealize.ShloMosaic.ValueIdx Gen LinAttn Idealize.SL.Sem

variable (m : (ℓ : Loc nD τ sig) → Buf (Elt Ideal) ℓ)

/-- The reference's arguments, decoded. -/
def args (c : Dev nD) : Args where
  q := bitcastToFloat (F := Ideal) .fp8e4m3 (s := S32x1024x6x128) (m ((c : Thread nD τ).loc main_arg0))
  k := bitcastToFloat (F := Ideal) .fp8e4m3 (s := S32x1024x6x128) (m ((c : Thread nD τ).loc main_arg1))
  v := bitcastToFloat (F := Ideal) .fp8e4m3 (s := S32x1024x6x256) (m ((c : Thread nD τ).loc main_arg2))
  dO := bitcastToFloat (F := Ideal) .fp8e5m2 (s := S32x1024x6x256) (m ((c : Thread nD τ).loc main_arg6))
  qs := m ((c : Thread nD τ).loc main_arg3)
  ks := m ((c : Thread nD τ).loc main_arg4)
  vs := m ((c : Thread nD τ).loc main_arg5)
  dos := m ((c : Thread nD τ).loc main_arg7)

/-- The array the region reads `q` from. -/
theorem V_q (c : Dev nD) : (V m c main_v0 : S32x1024x6x128.Idx → EReal) = (args m c).q := by
  show StableHlo.after hostOps0 _ (Proc.devRef .tc main_v0) = _
  after_results
  rfl

theorem emb_in_q (t : Fin cfg0.N) (y : S32x1024x6x128.Idx) : (((cfg0.win 0).blk t).view.emb y : S32x1024x6x128.Idx) = y := by
  funext a
  match a with
  | ⟨0, _⟩ => exact Fin.ext (show 0 * 32 + 1 * (y (0 : Fin 4)).val = (y (0 : Fin 4)).val by omega)
  | ⟨1, _⟩ => exact Fin.ext (show 0 * 1024 + 1 * (y (1 : Fin 4)).val = (y (1 : Fin 4)).val by omega)
  | ⟨2, _⟩ => exact Fin.ext (show 0 * 6 + 1 * (y (2 : Fin 4)).val = (y (2 : Fin 4)).val by omega)
  | ⟨3, _⟩ => exact Fin.ext (show 0 * 128 + 1 * (y (3 : Fin 4)).val = (y (3 : Fin 4)).val by omega)

theorem emb_out_q (t : Fin cfg0.N) (y : S32x1024x6x128.Idx) : (((cfg0.win 4).blk t).view.emb y : S32x1024x6x128.Idx) = y := by
  funext a
  match a with
  | ⟨0, _⟩ => exact Fin.ext (show 0 * 32 + 1 * (y (0 : Fin 4)).val = (y (0 : Fin 4)).val by omega)
  | ⟨1, _⟩ => exact Fin.ext (show 0 * 1024 + 1 * (y (1 : Fin 4)).val = (y (1 : Fin 4)).val by omega)
  | ⟨2, _⟩ => exact Fin.ext (show 0 * 6 + 1 * (y (2 : Fin 4)).val = (y (2 : Fin 4)).val by omega)
  | ⟨3, _⟩ => exact Fin.ext (show 0 * 128 + 1 * (y (3 : Fin 4)).val = (y (3 : Fin 4)).val by omega)

theorem out_q_covers : (cfg0.win 4).Covers := by decide +kernel

/-- What the region stores for `q`: the values of its words. -/
theorem out_q_point (c : Dev nD) (t : Fin cfg0.N) (y : S32x1024x6x128.Idx) : ((dats m 0 c).after 4 t : S32x1024x6x128.Idx → EReal) y = (args m c).q y := by
  rw [after0_4]
  unfold out0_4
  rw [View.canon_unit_zero (by decide)]
  unfold k0_pay1
  dsimp only
  rw [shapeCast_self, View.ld_unit_zero (by decide)]
  show (iblk m c 0 t : S32x1024x6x128.Idx → EReal) y = _
  unfold iblk
  rw [View.read_apply]
  show (V m c main_v0 : S32x1024x6x128.Idx → EReal) _ = _
  rw [V_q]
  exact congrArg (args m c).q (emb_in_q t y)

/-- What the region leaves for `q`. -/
theorem reg_q (c : Dev nD) : (Value.reg_main_v4_0 m c : S32x1024x6x128.Idx → EReal) = (args m c).q := by
  funext i
  refine Pipeline.Dat.arrAt_forall_of_covers (dats m 0 c) 4 (fun (i : S32x1024x6x128.Idx) (x : EReal) => x = (args m c).q i) out_q_covers ?_ i
  intro t _ y
  refine Eq.trans (b := ((dats m 0 c).after 4 t : S32x1024x6x128.Idx → EReal) y) rfl ?_
  exact (out_q_point m c t y).trans (congrArg (args m c).q (emb_out_q t y).symm)

/-- The array the region reads `k` from. -/
theorem V_k (c : Dev nD) : (V m c main_v1 : S32x1024x6x128.Idx → EReal) = (args m c).k := by
  show StableHlo.after hostOps0 _ (Proc.devRef .tc main_v1) = _
  after_results
  rfl

theorem emb_in_k (t : Fin cfg0.N) (y : S32x1024x6x128.Idx) : (((cfg0.win 1).blk t).view.emb y : S32x1024x6x128.Idx) = y := by
  funext a
  match a with
  | ⟨0, _⟩ => exact Fin.ext (show 0 * 32 + 1 * (y (0 : Fin 4)).val = (y (0 : Fin 4)).val by omega)
  | ⟨1, _⟩ => exact Fin.ext (show 0 * 1024 + 1 * (y (1 : Fin 4)).val = (y (1 : Fin 4)).val by omega)
  | ⟨2, _⟩ => exact Fin.ext (show 0 * 6 + 1 * (y (2 : Fin 4)).val = (y (2 : Fin 4)).val by omega)
  | ⟨3, _⟩ => exact Fin.ext (show 0 * 128 + 1 * (y (3 : Fin 4)).val = (y (3 : Fin 4)).val by omega)

theorem emb_out_k (t : Fin cfg0.N) (y : S32x1024x6x128.Idx) : (((cfg0.win 5).blk t).view.emb y : S32x1024x6x128.Idx) = y := by
  funext a
  match a with
  | ⟨0, _⟩ => exact Fin.ext (show 0 * 32 + 1 * (y (0 : Fin 4)).val = (y (0 : Fin 4)).val by omega)
  | ⟨1, _⟩ => exact Fin.ext (show 0 * 1024 + 1 * (y (1 : Fin 4)).val = (y (1 : Fin 4)).val by omega)
  | ⟨2, _⟩ => exact Fin.ext (show 0 * 6 + 1 * (y (2 : Fin 4)).val = (y (2 : Fin 4)).val by omega)
  | ⟨3, _⟩ => exact Fin.ext (show 0 * 128 + 1 * (y (3 : Fin 4)).val = (y (3 : Fin 4)).val by omega)

theorem out_k_covers : (cfg0.win 5).Covers := by decide +kernel

/-- What the region stores for `k`: the values of its words. -/
theorem out_k_point (c : Dev nD) (t : Fin cfg0.N) (y : S32x1024x6x128.Idx) : ((dats m 0 c).after 5 t : S32x1024x6x128.Idx → EReal) y = (args m c).k y := by
  rw [after0_5]
  unfold out0_5
  rw [View.canon_unit_zero (by decide)]
  unfold k0_pay2
  dsimp only
  rw [shapeCast_self, View.ld_unit_zero (by decide)]
  show (iblk m c 1 t : S32x1024x6x128.Idx → EReal) y = _
  unfold iblk
  rw [View.read_apply]
  show (V m c main_v1 : S32x1024x6x128.Idx → EReal) _ = _
  rw [V_k]
  exact congrArg (args m c).k (emb_in_k t y)

/-- What the region leaves for `k`. -/
theorem reg_k (c : Dev nD) : (Value.reg_main_v4_1 m c : S32x1024x6x128.Idx → EReal) = (args m c).k := by
  funext i
  refine Pipeline.Dat.arrAt_forall_of_covers (dats m 0 c) 5 (fun (i : S32x1024x6x128.Idx) (x : EReal) => x = (args m c).k i) out_k_covers ?_ i
  intro t _ y
  refine Eq.trans (b := ((dats m 0 c).after 5 t : S32x1024x6x128.Idx → EReal) y) rfl ?_
  exact (out_k_point m c t y).trans (congrArg (args m c).k (emb_out_k t y).symm)

/-- The array the region reads `v` from. -/
theorem V_v (c : Dev nD) : (V m c main_v2 : S32x1024x6x256.Idx → EReal) = (args m c).v := by
  show StableHlo.after hostOps0 _ (Proc.devRef .tc main_v2) = _
  after_results
  rfl

theorem emb_in_v (t : Fin cfg0.N) (y : S32x1024x6x256.Idx) : (((cfg0.win 2).blk t).view.emb y : S32x1024x6x256.Idx) = y := by
  funext a
  match a with
  | ⟨0, _⟩ => exact Fin.ext (show 0 * 32 + 1 * (y (0 : Fin 4)).val = (y (0 : Fin 4)).val by omega)
  | ⟨1, _⟩ => exact Fin.ext (show 0 * 1024 + 1 * (y (1 : Fin 4)).val = (y (1 : Fin 4)).val by omega)
  | ⟨2, _⟩ => exact Fin.ext (show 0 * 6 + 1 * (y (2 : Fin 4)).val = (y (2 : Fin 4)).val by omega)
  | ⟨3, _⟩ => exact Fin.ext (show 0 * 256 + 1 * (y (3 : Fin 4)).val = (y (3 : Fin 4)).val by omega)

theorem emb_out_v (t : Fin cfg0.N) (y : S32x1024x6x256.Idx) : (((cfg0.win 6).blk t).view.emb y : S32x1024x6x256.Idx) = y := by
  funext a
  match a with
  | ⟨0, _⟩ => exact Fin.ext (show 0 * 32 + 1 * (y (0 : Fin 4)).val = (y (0 : Fin 4)).val by omega)
  | ⟨1, _⟩ => exact Fin.ext (show 0 * 1024 + 1 * (y (1 : Fin 4)).val = (y (1 : Fin 4)).val by omega)
  | ⟨2, _⟩ => exact Fin.ext (show 0 * 6 + 1 * (y (2 : Fin 4)).val = (y (2 : Fin 4)).val by omega)
  | ⟨3, _⟩ => exact Fin.ext (show 0 * 256 + 1 * (y (3 : Fin 4)).val = (y (3 : Fin 4)).val by omega)

theorem out_v_covers : (cfg0.win 6).Covers := by decide +kernel

/-- What the region stores for `v`: the values of its words. -/
theorem out_v_point (c : Dev nD) (t : Fin cfg0.N) (y : S32x1024x6x256.Idx) : ((dats m 0 c).after 6 t : S32x1024x6x256.Idx → EReal) y = (args m c).v y := by
  rw [after0_6]
  unfold out0_6
  rw [View.canon_unit_zero (by decide)]
  unfold k0_pay3
  dsimp only
  rw [shapeCast_self, View.ld_unit_zero (by decide)]
  show (iblk m c 2 t : S32x1024x6x256.Idx → EReal) y = _
  unfold iblk
  rw [View.read_apply]
  show (V m c main_v2 : S32x1024x6x256.Idx → EReal) _ = _
  rw [V_v]
  exact congrArg (args m c).v (emb_in_v t y)

/-- What the region leaves for `v`. -/
theorem reg_v (c : Dev nD) : (Value.reg_main_v4_2 m c : S32x1024x6x256.Idx → EReal) = (args m c).v := by
  funext i
  refine Pipeline.Dat.arrAt_forall_of_covers (dats m 0 c) 6 (fun (i : S32x1024x6x256.Idx) (x : EReal) => x = (args m c).v i) out_v_covers ?_ i
  intro t _ y
  refine Eq.trans (b := ((dats m 0 c).after 6 t : S32x1024x6x256.Idx → EReal) y) rfl ?_
  exact (out_v_point m c t y).trans (congrArg (args m c).v (emb_out_v t y).symm)

/-- The array the region reads `dO` from. -/
theorem V_dO (c : Dev nD) : (V m c main_v3 : S32x1024x6x256.Idx → EReal) = (args m c).dO := by
  show StableHlo.after hostOps0 _ (Proc.devRef .tc main_v3) = _
  after_results
  rfl

theorem emb_in_dO (t : Fin cfg0.N) (y : S32x1024x6x256.Idx) : (((cfg0.win 3).blk t).view.emb y : S32x1024x6x256.Idx) = y := by
  funext a
  match a with
  | ⟨0, _⟩ => exact Fin.ext (show 0 * 32 + 1 * (y (0 : Fin 4)).val = (y (0 : Fin 4)).val by omega)
  | ⟨1, _⟩ => exact Fin.ext (show 0 * 1024 + 1 * (y (1 : Fin 4)).val = (y (1 : Fin 4)).val by omega)
  | ⟨2, _⟩ => exact Fin.ext (show 0 * 6 + 1 * (y (2 : Fin 4)).val = (y (2 : Fin 4)).val by omega)
  | ⟨3, _⟩ => exact Fin.ext (show 0 * 256 + 1 * (y (3 : Fin 4)).val = (y (3 : Fin 4)).val by omega)

theorem emb_out_dO (t : Fin cfg0.N) (y : S32x1024x6x256.Idx) : (((cfg0.win 7).blk t).view.emb y : S32x1024x6x256.Idx) = y := by
  funext a
  match a with
  | ⟨0, _⟩ => exact Fin.ext (show 0 * 32 + 1 * (y (0 : Fin 4)).val = (y (0 : Fin 4)).val by omega)
  | ⟨1, _⟩ => exact Fin.ext (show 0 * 1024 + 1 * (y (1 : Fin 4)).val = (y (1 : Fin 4)).val by omega)
  | ⟨2, _⟩ => exact Fin.ext (show 0 * 6 + 1 * (y (2 : Fin 4)).val = (y (2 : Fin 4)).val by omega)
  | ⟨3, _⟩ => exact Fin.ext (show 0 * 256 + 1 * (y (3 : Fin 4)).val = (y (3 : Fin 4)).val by omega)

theorem out_dO_covers : (cfg0.win 7).Covers := by decide +kernel

/-- What the region stores for `dO`: the values of its words. -/
theorem out_dO_point (c : Dev nD) (t : Fin cfg0.N) (y : S32x1024x6x256.Idx) : ((dats m 0 c).after 7 t : S32x1024x6x256.Idx → EReal) y = (args m c).dO y := by
  rw [after0_7]
  unfold out0_7
  rw [View.canon_unit_zero (by decide)]
  unfold k0_pay4
  dsimp only
  rw [shapeCast_self, View.ld_unit_zero (by decide)]
  show (iblk m c 3 t : S32x1024x6x256.Idx → EReal) y = _
  unfold iblk
  rw [View.read_apply]
  show (V m c main_v3 : S32x1024x6x256.Idx → EReal) _ = _
  rw [V_dO]
  exact congrArg (args m c).dO (emb_in_dO t y)

/-- What the region leaves for `dO`. -/
theorem reg_dO (c : Dev nD) : (Value.reg_main_v4_3 m c : S32x1024x6x256.Idx → EReal) = (args m c).dO := by
  funext i
  refine Pipeline.Dat.arrAt_forall_of_covers (dats m 0 c) 7 (fun (i : S32x1024x6x256.Idx) (x : EReal) => x = (args m c).dO i) out_dO_covers ?_ i
  intro t _ y
  refine Eq.trans (b := ((dats m 0 c).after 7 t : S32x1024x6x256.Idx → EReal) y) rfl ?_
  exact (out_dO_point m c t y).trans (congrArg (args m c).dO (emb_out_dO t y).symm)

/-- The reference's `dq`, from what the region leaves. -/
theorem dq_exit (c : Dev nD) (R : (args m c).Real) :
    (Read.val_main_v81 (F := Ideal) (Value.exitV m c (Proc.devRef .tc main_arg4)) (Value.exitV m c (Proc.devRef .tc main_arg5)) (Value.exitV m c (Proc.devRef .tc main_arg7)) (Value.exitV m c (Proc.devRef .tc main_v4_1)) (Value.exitV m c (Proc.devRef .tc main_v4_2)) (Value.exitV m c (Proc.devRef .tc main_v4_3)) : S32x1024x6x128.Idx → EReal) = (args m c).dqOut := by
  rw [Value.exit_main_arg4, Value.exit_main_arg5, Value.exit_main_arg7, Value.exit_main_v4_1, Value.exit_main_v4_2, Value.exit_main_v4_3]
  refine Eq.trans ?_ (dq_ref R)
  exact congr (congr (congrArg (Read.val_main_v81 (F := Ideal) (args m c).ks (args m c).vs (args m c).dos) (reg_k m c)) (reg_v m c)) (reg_dO m c)

/-- The reference's `dk`, from what the region leaves. -/
theorem dk_exit (c : Dev nD) (R : (args m c).Real) :
    (Read.val_main_v85 (F := Ideal) (Value.exitV m c (Proc.devRef .tc main_arg3)) (Value.exitV m c (Proc.devRef .tc main_arg5)) (Value.exitV m c (Proc.devRef .tc main_arg7)) (Value.exitV m c (Proc.devRef .tc main_v4_0)) (Value.exitV m c (Proc.devRef .tc main_v4_2)) (Value.exitV m c (Proc.devRef .tc main_v4_3)) : S32x1024x6x128.Idx → EReal) = (args m c).dkOut := by
  rw [Value.exit_main_arg3, Value.exit_main_arg5, Value.exit_main_arg7, Value.exit_main_v4_0, Value.exit_main_v4_2, Value.exit_main_v4_3]
  refine Eq.trans ?_ (dk_ref R)
  exact congr (congr (congrArg (Read.val_main_v85 (F := Ideal) (args m c).qs (args m c).vs (args m c).dos) (reg_q m c)) (reg_v m c)) (reg_dO m c)

/-- The reference's `dv`, from what the region leaves. -/
theorem dv_exit (c : Dev nD) (R : (args m c).Real) :
    (Read.val_main_v89 (F := Ideal) (Value.exitV m c (Proc.devRef .tc main_arg3)) (Value.exitV m c (Proc.devRef .tc main_arg4)) (Value.exitV m c (Proc.devRef .tc main_arg7)) (Value.exitV m c (Proc.devRef .tc main_v4_0)) (Value.exitV m c (Proc.devRef .tc main_v4_1)) (Value.exitV m c (Proc.devRef .tc main_v4_3)) : S32x1024x6x256.Idx → EReal) = (args m c).dvOut := by
  rw [Value.exit_main_arg3, Value.exit_main_arg4, Value.exit_main_arg7, Value.exit_main_v4_0, Value.exit_main_v4_1, Value.exit_main_v4_3]
  refine Eq.trans ?_ (dv_ref R)
  exact congr (congr (congrArg (Read.val_main_v89 (F := Ideal) (args m c).qs (args m c).ks (args m c).dos) (reg_q m c)) (reg_k m c)) (reg_dO m c)

/-- The reference returns the three arrays of the mathematics and keeps its arguments. -/
theorem run (g : Dev nD → PrngReg) (R : ∀ c, (args m c).Real) :
    θ_run defs (onTc (τ := τ) (main (F := Ideal))) ⟨m, fun _ => 0, g⟩ (fun r => ∀ c : Dev nD,
      (r.2.mem ((c : Thread nD τ).loc main_v81) : S32x1024x6x128.Idx → EReal) = (args m c).dqOut
      ∧ (r.2.mem ((c : Thread nD τ).loc main_v85) : S32x1024x6x128.Idx → EReal) = (args m c).dkOut
      ∧ (r.2.mem ((c : Thread nD τ).loc main_v89) : S32x1024x6x256.Idx → EReal) = (args m c).dvOut) :=
  (θ_run defs _ _).mono (fun _ h c =>
    ⟨((h c).1.trans (Read.val_main_v81_eq (Value.exitV m c))).trans (dq_exit m c (R c)),
      ((h c).2.1.trans (Read.val_main_v85_eq (Value.exitV m c))).trans (dk_exit m c (R c)),
      ((h c).2.2.1.trans (Read.val_main_v89_eq (Value.exitV m c))).trans (dv_exit m c (R c))⟩) (Value.run m g)

end Cert.ReferenceIdeal
end
end
-- ==== Proof.Finite.lean ====
/- What the precondition says of the arguments: every decoded word and every scale is a real number. -/
module

public import proofs.«01_k».proof.Proof.Windows
public import proofs.«01_k».proof.Defs
public import proofs.«01_k».proof.Proof.Gen.Pre_finite

@[expose] public section

noncomputable section

namespace LinAttn

open Idealize.ShloMosaic

/-- An eight-bit word whose lower seven bits are not all ones is not the one word of its format without a value. -/
theorem e4m3_word : ∀ w : BitVec 8, IntOp.cmpi .slt (IntOp.andi (w.setWidth 32) 127#32) 127#32 = 1#1 →
    ¬ ((w.extractLsb' 3 4).toNat = 15 ∧ (w.extractLsb' 0 3).toNat = 7) := by decide +kernel

/-- An eight-bit word whose lower seven bits are below the infinity's is neither an infinity nor without a value. -/
theorem e5m2_word : ∀ w : BitVec 8, IntOp.cmpi .slt (IntOp.andi (w.setWidth 32) 127#32) 124#32 = 1#1 →
    ¬ (w.extractLsb' 2 5).toNat = 2 ^ 5 - 1 := by decide +kernel

/-- Such a word denotes a real number. -/
theorem e4m3_real (w : BitVec 8) (h : IntOp.cmpi .slt (IntOp.andi (w.setWidth 32) 127#32) 127#32 = 1#1) :
    ∃ r : ℝ, Ideal.ofBits .fp8e4m3 w = (r : EReal) := by
  show ∃ r : ℝ, Ideal.e4m3fn w = (r : EReal)
  unfold Ideal.e4m3fn
  dsimp only
  rw [if_neg (e4m3_word w h)]
  split
  · exact ⟨_, rfl⟩
  · exact ⟨_, rfl⟩

theorem e5m2_real (w : BitVec 8) (h : IntOp.cmpi .slt (IntOp.andi (w.setWidth 32) 127#32) 124#32 = 1#1) :
    ∃ r : ℝ, Ideal.ofBits .fp8e5m2 w = (r : EReal) := by
  show ∃ r : ℝ, Ideal.ieee 5 2 w = (r : EReal)
  unfold Ideal.ieee
  dsimp only
  rw [if_neg (e5m2_word w h)]
  split
  · exact ⟨_, rfl⟩
  · exact ⟨_, rfl⟩

/-- A value whose magnitude is below infinity is a real number. -/
theorem scale_real (x : EReal) (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x with
  | bot => simp [Ideal.cmp] at h
  | top => simp [Ideal.cmp] at h
  | coe r => exact ⟨r, rfl⟩

end LinAttn

namespace Cert.KernelIdeal

open Idealize.ShloMosaic Idealize.ShloMosaic.TcCoe Gen LinAttn

/-- Under the precondition every argument is a real number. -/
theorem args_real (m : (ℓ : Loc nD τ sig) → Buf (Elt Ideal) ℓ) (h : Cert.Pre_KernelIdeal_finite m) (c : Dev nD) : (args m c).Real := by
  obtain ⟨h0, h1, h2, h3, h4, h5, h7, h6⟩ := h c
  exact {
    q := fun i => eq_toReal (e4m3_real _ (congrFun h0 i))
    k := fun i => eq_toReal (e4m3_real _ (congrFun h1 i))
    v := fun i => eq_toReal (e4m3_real _ (congrFun h2 i))
    dO := fun i => eq_toReal (e5m2_real _ (congrFun h6 i))
    qs := fun i => eq_toReal (scale_real _ (congrFun h3 i))
    ks := fun i => eq_toReal (scale_real _ (congrFun h4 i))
    vs := fun i => eq_toReal (scale_real _ (congrFun h5 i))
    dos := fun i => eq_toReal (scale_real _ (congrFun h7 i)) }

end Cert.KernelIdeal
end
end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Frame
public import proofs.«01_k».proof.Proof.Gen.Pre_finite
public import proofs.«01_k».proof.Proof.KernelRun
public import proofs.«01_k».proof.Proof.RefRun
public import proofs.«01_k».proof.Proof.Finite
public import Idealize.ShloMosaic.Adequacy
public import Idealize.ShloMosaic.Init

@[expose] public section

noncomputable section

namespace Cert.Proof

open Idealize.ShloMosaic Idealize.ShloMosaic.TcCoe Idealize.SL.Sem LinAttn

/-- Equal argument words give equal decoded arguments. -/
theorem args_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2))
    (h3 : m' ((c.tc : Thread ReferenceIdeal.nD ReferenceIdeal.τ).loc ReferenceIdeal.main_arg3) = m ((c.tc : Thread KernelIdeal.nD KernelIdeal.τ).loc KernelIdeal.main_arg3))
    (h4 : m' ((c.tc : Thread ReferenceIdeal.nD ReferenceIdeal.τ).loc ReferenceIdeal.main_arg4) = m ((c.tc : Thread KernelIdeal.nD KernelIdeal.τ).loc KernelIdeal.main_arg4))
    (h5 : m' ((c.tc : Thread ReferenceIdeal.nD ReferenceIdeal.τ).loc ReferenceIdeal.main_arg5) = m ((c.tc : Thread KernelIdeal.nD KernelIdeal.τ).loc KernelIdeal.main_arg5))
    (h6 : m' ((c.tc : Thread ReferenceIdeal.nD ReferenceIdeal.τ).loc ReferenceIdeal.main_arg6) = m ((c.tc : Thread KernelIdeal.nD KernelIdeal.τ).loc KernelIdeal.main_arg6))
    (h7 : m' ((c.tc : Thread ReferenceIdeal.nD ReferenceIdeal.τ).loc ReferenceIdeal.main_arg7) = m ((c.tc : Thread KernelIdeal.nD KernelIdeal.τ).loc KernelIdeal.main_arg7)) :
    ReferenceIdeal.args m' c = KernelIdeal.args m c := by
  have e : ∀ A B : Args, A.q = B.q → A.k = B.k → A.v = B.v → A.dO = B.dO → A.qs = B.qs → A.ks = B.ks → A.vs = B.vs → A.dos = B.dos → A = B := by
    rintro ⟨⟩ ⟨⟩ rfl rfl rfl rfl rfl rfl rfl rfl
    rfl
  exact e _ _ (congrArg (bitcastToFloat (F := Ideal) .fp8e4m3 (s := KernelIdeal.S32x1024x6x128)) h0)
    (congrArg (bitcastToFloat (F := Ideal) .fp8e4m3 (s := KernelIdeal.S32x1024x6x128)) h1)
    (congrArg (bitcastToFloat (F := Ideal) .fp8e4m3 (s := KernelIdeal.S32x1024x6x256)) h2)
    (congrArg (bitcastToFloat (F := Ideal) .fp8e5m2 (s := KernelIdeal.S32x1024x6x256)) h6) h3 h4 h5 h7

/-- For equal finite arguments the idealized kernel and the idealized reference return the same three arrays, both keeping their arguments. -/
theorem equal_results : Cert.algebraic_KernelIdeal_ReferenceIdeal_pre_finite := by
  intro m g m' g' hP hA
  have R := KernelIdeal.args_real m hP
  have E : ∀ c, ReferenceIdeal.args m' c = KernelIdeal.args m c := fun c => by
    obtain ⟨h0, h1, h2, h3, h4, h5, h6, h7⟩ := hA c
    exact args_eq m m' c h0 h1 h2 h3 h4 h5 h6 h7
  refine ⟨fun c => (KernelIdeal.args m c).dqOut, fun c => (KernelIdeal.args m c).dkOut, fun c => (KernelIdeal.args m c).dvOut, ?_, ?_⟩
  · refine (θ_run _ _ _).mono (fun r h c => ?_) (θ_run_and (KernelIdeal.run m g R) (KernelIdeal.Gen.unchanged m g))
    obtain ⟨hv, hu⟩ := h
    exact ⟨(hv c).1, (hv c).2.1, (hv c).2.2, hu c⟩
  · refine (θ_run _ _ _).mono (fun r h c => ?_) (θ_run_and (ReferenceIdeal.run m' g' fun c => (E c).symm ▸ R c) (ReferenceIdeal.Gen.unchanged m' g'))
    obtain ⟨hv, hu⟩ := h
    exact ⟨(hv c).1.trans (congrArg Args.dqOut (E c)), (hv c).2.1.trans (congrArg Args.dkOut (E c)), (hv c).2.2.trans (congrArg Args.dvOut (E c)), hu c⟩

theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ, fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ, trivial, equal_results⟩

end Cert.Proof

end
